-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "eps2" .f32 0x179ABE15#32 ((5316911940649 / 5316911983139663491615228241121378304 : ℝ) : EReal)
  ∧ IdealRules.named_const.Statement Cert.KernelIdeal.κ "neg" .f32 0xFF61B1E6#32 ⊥
  ∧ IdealRules.named_const.Statement Cert.KernelIdeal.κ "scale" .f32 0x3DB504F3#32 ((1048576 / 11863283 : ℝ) : EReal)

def algebraic_KernelIdeal_ReferenceIdeal_on_covered [hKernelIdeal : Cert.KernelIdeal.Facts] [hReferenceIdeal : Cert.ReferenceIdeal.Facts] [hOn_covered : Cert.On_covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 8192]⟩ : Shape).Idx, (Cert.On_covered.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v1) i = v0 c i)
          ∧ (∀ i : (⟨2, ![8192, 128]⟩ : Shape).Idx, (Cert.On_covered.fn (F := Ideal) (m ((c.tc : Thread Cert.KernelIdeal.nD Cert.KernelIdeal.τ).loc Cert.KernelIdeal.main_arg0))).2 i = 1#1 → r.2.mem ((c.tc : Thread Cert.KernelIdeal.nD Cert.KernelIdeal.τ).loc Cert.KernelIdeal.main_arg0) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 8192]⟩ : Shape).Idx, (Cert.On_covered.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v42) i = v0 c i)
          ∧ (∀ i : (⟨2, ![8192, 128]⟩ : Shape).Idx, (Cert.On_covered.fn (F := Ideal) (m ((c.tc : Thread Cert.KernelIdeal.nD Cert.KernelIdeal.τ).loc Cert.KernelIdeal.main_arg0))).2 i = 1#1 → r.2.mem ((c.tc : Thread Cert.ReferenceIdeal.nD Cert.ReferenceIdeal.τ).loc Cert.ReferenceIdeal.main_arg0) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_covered : Cert.On_covered.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_covered (hKernelIdeal := hKernelIdeal) (hReferenceIdeal := hReferenceIdeal) (hOn_covered := hOn_covered)
-- ==== On_covered.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S8192x32 : Shape := ⟨2, ![8192, 32]⟩
abbrev S8192x31 : Shape := ⟨2, ![8192, 31]⟩
abbrev S8192x32x256 : Shape := ⟨3, ![8192, 32, 256]⟩
abbrev S8192x256 : Shape := ⟨2, ![8192, 256]⟩

class Facts : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  sliceFits_S8192x8192_S8192x32 : S8192x8192.Slices (fun _ => 0) S8192x32
  slices_S8192x32_S8192x1_0_30 : S8192x32.Slices ![0, 30] S8192x1
  slices_S8192x32_S8192x31_0_0 : S8192x32.Slices ![0, 0] S8192x31
  slices_S8192x32_S8192x31_0_1 : S8192x32.Slices ![0, 1] S8192x31
  reducesTo_S8192x31_S8192_d1 : S8192x31.ReducesTo [1] S8192
  bcast_S8192x1_S8192x8192_0_1 : S8192x1.BroadcastsInDim S8192x8192 (![0, 1] : Fin 2 → Fin S8192x8192.rank)
  shapeCasts_S8192x8192_S8192x32x256 : S8192x8192.ShapeCasts S8192x32x256
  bcast_S_S8192x32x256 : S_.BroadcastsInDim S8192x32x256 (![] : Fin 0 → Fin S8192x32x256.rank)
  reducesTo_S8192x32x256_S8192x256_d1 : S8192x32x256.ReducesTo [1] S8192x256
  bcast_S_S8192x256 : S_.BroadcastsInDim S8192x256 (![] : Fin 0 → Fin S8192x256.rank)
  reducesTo_S8192x256_S8192_d1 : S8192x256.ReducesTo [1] S8192
  bcast_S_S8192x8192 : S_.BroadcastsInDim S8192x8192 (![] : Fin 0 → Fin S8192x8192.rank)
  bcast_S_S8192x128 : S_.BroadcastsInDim S8192x128 (![] : Fin 0 → Fin S8192x128.rank)
  dot_S8192x128_S128x8192_S8192x8192_1_0_0_1_n_n_wf : DotDims.WF S8192x128 S128x8192 S8192x8192 [1] [0] [0] [1] [] []

variable [Facts]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def fn_norm {F : FTy → Type} [FloatOps F] (arg0 : FVec F S8192x128 .f32) : FVec F S8192x1 .f32 :=
  let v0 : FVec F S8192x128 .f32 := mulf arg0 arg0
  let cst : FVec F S_ .f32 := constant S_ .f32 0x00000000#32
  let v1 : FVec F S8192 .f32 := (fun x v => Host.reduceAdd x v reducesTo_S8192x128_S8192_d1 h_S_) v0 cst
  let v2 : FVec F S8192x1 .f32 := broadcastInDim S8192x1 ![0] bcast_S8192_S8192x1_0 v1
  let v3 : FVec F S8192x1 .f32 := Host.sqrt v2
  v3

def fn_where {F : FTy → Type} [FloatOps F] (arg0 : IVec S8192x32x256 1) (arg1 : FVec F S_ .f32) (arg2 : FVec F S_ .f32) : FVec F S8192x32x256 .f32 :=
  let v0 : FVec F S8192x32x256 .f32 := broadcastInDim S8192x32x256 ![] bcast_S_S8192x32x256 arg1
  let v1 : FVec F S8192x32x256 .f32 := broadcastInDim S8192x32x256 ![] bcast_S_S8192x32x256 arg2
  let v2 : FVec F S8192x32x256 .f32 := select arg0 v0 v1
  v2

def fn_part2 {F : FTy → Type} [FloatOps F] (main_v6 : FVec F S8192x8192 .f32) (main_v31 : IVec S8192x1 1) (main_v33 : IVec S8192x8192 1) (main_v34 : FVec F S8192x8192 .f32) : IVec S8192x8192 1 × IVec S8192x128 1 :=
  let main_v35 : IVec S8192x8192 1 := cmpf .oge main_v6 main_v34
  let main_v36 : IVec S8192x8192 1 := ori main_v33 main_v35
  let main_v37 : IVec S8192x8192 1 := broadcastInDim S8192x8192 ![0, 1] bcast_S8192x1_S8192x8192_0_1 main_v31
  let main_v38 : IVec S8192x8192 1 := andi main_v37 main_v36
  let main_v39 : IVec S8192x8192 32 := iotaInDim S8192x8192 32 0
  let main_v40 : IVec S8192x8192 32 := iotaInDim S8192x8192 32 1
  let main_c_9 : IVec S_ 32 := constantI S_ 32 0#32
  let main_v41 : IVec S8192x8192 32 := broadcastInDim S8192x8192 ![] bcast_S_S8192x8192 main_c_9
  let main_v42 : IVec S8192x8192 32 := addi main_v39 main_v41
  let main_v43 : IVec S8192x8192 1 := cmpi .eq main_v42 main_v40
  let main_v44 : IVec S8192x8192 1 := ori main_v38 main_v43
  let main_c_10 : IVec S_ 1 := constantI S_ 1 1#1
  let main_v45 : IVec S8192x128 1 := broadcastInDim S8192x128 ![] bcast_S_S8192x128 main_c_10
  (main_v44, main_v45)

def fn_part1 {F : FTy → Type} [FloatOps F] (main_v4 : FVec F S8192x128 .f32) (main_v6 : FVec F S8192x8192 .f32) (main_v7 : FVec F S8192x1 .f32) (main_v12 : IVec S8192x1 1) (main_v17 : FVec F S8192x32x256 .f32) : IVec S8192x8192 1 × IVec S8192x128 1 :=
  let main_cst_2 : FVec F S_ .f32 := constant S_ .f32 0x00000000#32
  let main_v18 : FVec F S8192x256 .f32 := (fun x v => Host.reduceAdd x v reducesTo_S8192x32x256_S8192x256_d1 h_S_) main_v17 main_cst_2
  let main_cst_3 : FVec F S_ .f32 := constant S_ .f32 0x40400000#32
  let main_v19 : FVec F S8192x256 .f32 := broadcastInDim S8192x256 ![] bcast_S_S8192x256 main_cst_3
  let main_v20 : IVec S8192x256 1 := cmpf .ole main_v18 main_v19
  let main_c_4 : IVec S_ 1 := constantI S_ 1 1#1
  let main_v21 : IVec S8192 1 := (fun x v => Host.reduce IntOp.andi x v reducesTo_S8192x256_S8192_d1 h_S_) main_v20 main_c_4
  let main_v22 : IVec S8192x1 1 := broadcastInDim S8192x1 ![0] bcast_S8192_S8192x1_0 main_v21
  let main_v23 : FVec F S8192x128 .f32 := mulf main_v4 main_v4
  let main_cst_5 : FVec F S_ .f32 := constant S_ .f32 0x00000000#32
  let main_v24 : FVec F S8192 .f32 := (fun x v => Host.reduceAdd x v reducesTo_S8192x128_S8192_d1 h_S_) main_v23 main_cst_5
  let main_v25 : FVec F S8192x1 .f32 := broadcastInDim S8192x1 ![0] bcast_S8192_S8192x1_0 main_v24
  let main_v26 : IVec S8192x1 1 := cmpf .oge main_v25 main_v7
  let main_cst_6 : FVec F S_ .f32 := constant S_ .f32 0x00000000#32
  let main_v27 : FVec F S8192x1 .f32 := broadcastInDim S8192x1 ![] bcast_S_S8192x1 main_cst_6
  let main_v28 : IVec S8192x1 1 := cmpf .ole main_v7 main_v27
  let main_v29 : IVec S8192x1 1 := andi main_v12 main_v22
  let main_v30 : IVec S8192x1 1 := andi main_v29 main_v26
  let main_v31 : IVec S8192x1 1 := ori main_v28 main_v30
  let main_cst_7 : FVec F S_ .f32 := constant S_ .f32 0x00000000#32
  let main_v32 : FVec F S8192x8192 .f32 := broadcastInDim S8192x8192 ![] bcast_S_S8192x8192 main_cst_7
  let main_v33 : IVec S8192x8192 1 := cmpf .ole main_v6 main_v32
  let main_cst_8 : FVec F S_ .f32 := constant S_ .f32 0x0FCAD2F8#32
  let main_v34 : FVec F S8192x8192 .f32 := broadcastInDim S8192x8192 ![] bcast_S_S8192x8192 main_cst_8
  fn_part2 (F := F) main_v6 main_v31 main_v33 main_v34

def fn {F : FTy → Type} [FloatOps F] (main_arg0 : FVec F S8192x128 .f32) : IVec S8192x8192 1 × IVec S8192x128 1 :=
  let main_v0 : FVec F S8192x1 .f32 := fn_norm (F := F) main_arg0
  let main_cst : FVec F S_ .f32 := constant S_ .f32 0x2B8CBCCC#32
  let main_v1 : FVec F S8192x1 .f32 := broadcastInDim S8192x1 ![] bcast_S_S8192x1 main_cst
  let main_v2 : FVec F S8192x1 .f32 := maximumf main_v0 main_v1
  let main_v3 : FVec F S8192x128 .f32 := broadcastInDim S8192x128 ![0, 1] bcast_S8192x1_S8192x128_0_1 main_v2
  let main_v4 : FVec F S8192x128 .f32 := Host.divf main_arg0 main_v3
  let main_v5 : FVec F S128x8192 .f32 := (transpose S128x8192 [1, 0] · transposes_S8192x128_S128x8192_1_0) main_v4
  let main_v6 : FVec F S8192x8192 .f32 := (fun l r => Host.dotGeneral dot_S8192x128_S128x8192_S8192x8192_1_0_0_1_n_n none l r) main_v4 main_v5
  let main_values : FVec F S8192x32 .f32 := (fun x => (Host.topK S8192x32 1 (FloatOps.cmpfTotal .gt) x sliceFits_S8192x8192_S8192x32).1) main_v6
  let main_indices : IVec S8192x32 32 := (fun x => (Host.topK S8192x32 1 (FloatOps.cmpfTotal .gt) x sliceFits_S8192x8192_S8192x32).2) main_v6
  let main_v7 : FVec F S8192x1 .f32 := (extractStridedSlice S8192x1 ![0, 30] · slices_S8192x32_S8192x1_0_30) main_values
  let main_v8 : FVec F S8192x31 .f32 := (extractStridedSlice S8192x31 ![0, 0] · slices_S8192x32_S8192x31_0_0) main_values
  let main_v9 : FVec F S8192x31 .f32 := (extractStridedSlice S8192x31 ![0, 1] · slices_S8192x32_S8192x31_0_1) main_values
  let main_v10 : IVec S8192x31 1 := cmpf .ogt main_v8 main_v9
  let main_c : IVec S_ 1 := constantI S_ 1 1#1
  let main_v11 : IVec S8192 1 := (fun x v => Host.reduce IntOp.andi x v reducesTo_S8192x31_S8192_d1 h_S_) main_v10 main_c
  let main_v12 : IVec S8192x1 1 := broadcastInDim S8192x1 ![0] bcast_S8192_S8192x1_0 main_v11
  let main_v13 : FVec F S8192x8192 .f32 := broadcastInDim S8192x8192 ![0, 1] bcast_S8192x1_S8192x8192_0_1 main_v7
  let main_v14 : IVec S8192x8192 1 := cmpf .oge main_v6 main_v13
  let main_v15 : IVec S8192x32x256 1 := shapeCast S8192x32x256 main_v14 shapeCasts_S8192x8192_S8192x32x256
  let main_cst_0 : FVec F S_ .f32 := constant S_ .f32 0x3F800000#32
  let main_cst_1 : FVec F S_ .f32 := constant S_ .f32 0x00000000#32
  let main_v16 : FVec F S8192x32x256 .f32 := fn_where (F := F) main_v15 main_cst_0 main_cst_1
  let main_v17 : FVec F S8192x32x256 .f32 := id main_v16
  fn_part1 (F := F) main_v4 main_v6 main_v7 main_v12 main_v17
-- ==== Kernel.lean ====
abbrev S8192x128 : Shape := ⟨2, ![8192, 128]⟩
abbrev S8192 : Shape := ⟨1, ![8192]⟩
abbrev S8192x1 : Shape := ⟨2, ![8192, 1]⟩
abbrev S8192x8192 : Shape := ⟨2, ![8192, 8192]⟩
abbrev S256x128 : Shape := ⟨2, ![256, 128]⟩
abbrev S256x8192 : Shape := ⟨2, ![256, 8192]⟩
abbrev S256x256 : Shape := ⟨2, ![256, 256]⟩
abbrev S256 : Shape := ⟨1, ![256]⟩
abbrev S256x1 : Shape := ⟨2, ![256, 1]⟩

abbrev nBuf : Space → Nat
  | .hbm => 3
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .local _ .vmem, ⟨0, _⟩ => ⟨S8192x128, .f32⟩
  | .local _ .vmem, ⟨1, _⟩ => ⟨S8192x128, .f32⟩
  | .local _ .vmem, ⟨2, _⟩ => ⟨S256x128, .f32⟩
  | .local _ .vmem, ⟨3, _⟩ => ⟨S256x128, .f32⟩
  | .local _ .vmem, ⟨4, _⟩ => ⟨S8192x128, .f32⟩
  | .local _ .vmem, ⟨5, _⟩ => ⟨S256x8192, .f32⟩
  | .local _ .vmem, ⟨6, _⟩ => ⟨S256x8192, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6

abbrev nD : Nat := 1
abbrev τ : Topo := Topo.v7x

variable {F : FTy → Type} [FloatOps F]

abbrev grid0 : Pipeline.Grid := .none

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![32], ![false]⟩

@[reducible] def k1_t1_loop : Scf.Loop 32 :=
  let c0_i32 : BitVec 32 := 0#32
  let c30_i32 : BitVec 32 := 30#32
  let v293 : BitVec 32 := Scalar.addi c0_i32 c30_i32
  let c1_i32 : BitVec 32 := 1#32
  ⟨c0_i32, v293, c1_i32⟩
def k1_off1 (i : grid1.Coords) : Fin 2 → Nat :=
  let c0_203 : Index := 0#32
  let arg0 : BitVec 32 := BitVec.ofNat 32 (i 0).val
  let c256_i32 : BitVec 32 := 256#32
  let v599 : BitVec 32 := Scalar.muli arg0 c256_i32
  let v600 : Index := Scalar.indexCast v599
  ![0, v600.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "eps2" => some ((5316911940649 / 5316911983139663491615228241121378304 : ℝ) : EReal)
  | "neg" => some ⊥
  | "scale" => some ((1048576 / 11863283 : ℝ) : EReal)
  | _ => none
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S8192x30 : Shape := ⟨2, ![8192, 30]⟩
abbrev S8192x30x1 : Shape := ⟨3, ![8192, 30, 1]⟩
abbrev S8192x30x2 : Shape := ⟨3, ![8192, 30, 2]⟩

abbrev nBuf : Space → Nat
  | .hbm => 65
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x128, .f32⟩
  | .hbm, ⟨10, _⟩ => ⟨S8192x128, .f32⟩
  | .hbm, ⟨11, _⟩ => ⟨S128x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x30, .f32⟩
  | .hbm, ⟨27, _⟩ => ⟨S8192x30, .i32⟩
  | .hbm, ⟨28, _⟩ => ⟨S8192, .i32⟩
  | .hbm, ⟨29, _⟩ => ⟨S8192x1, .i32⟩
  | .hbm, ⟨30, _⟩ => ⟨S_, .f32⟩
  | .hbm, ⟨31, _⟩ => ⟨S8192x8192, .f32⟩
  | .hbm, ⟨32, _⟩ => ⟨S_, .i32⟩
  | .hbm, ⟨33, _⟩ => ⟨S8192x1, .i32⟩
  | .hbm, ⟨34, _⟩ => ⟨S8192x1, .i1⟩
  | .hbm, ⟨35, _⟩ => ⟨S_, .i32⟩
  | .hbm, ⟨36, _⟩ => ⟨S8192x1, .i32⟩
  | .hbm, ⟨37, _⟩ => ⟨S8192x1, .i32⟩
  | .hbm, ⟨38, _⟩ => ⟨S8192x1, .i32⟩
  | .hbm, ⟨39, _⟩ => ⟨S_, .i32⟩
  | .hbm, ⟨40, _⟩ => ⟨S8192x30, .i32⟩
  | .hbm, ⟨41, _⟩ => ⟨S8192x30, .i1⟩
  | .hbm, ⟨42, _⟩ => ⟨S_, .i32⟩
  | .hbm, ⟨43, _⟩ => ⟨S8192x30, .i32⟩
  | .hbm, ⟨44, _⟩ => ⟨S8192x30, .i32⟩
  | .hbm, ⟨45, _⟩ => ⟨S8192x30, .i32⟩
  | .hbm, ⟨46, _⟩ => ⟨S8192x30, .i32⟩
  | .hbm, ⟨47, _⟩ => ⟨S8192x30x1, .i32⟩
  | .hbm, ⟨48, _⟩ => ⟨S8192x30x1, .i32⟩
  | .hbm, ⟨49, _⟩ => ⟨S8192x30x2, .i32⟩
  | .hbm, ⟨50, _⟩ => ⟨S_, .f32⟩
  | .hbm, ⟨51, _⟩ => ⟨S8192x30, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x8192, .i32⟩
  | .hbm, ⟨58, _⟩ => ⟨S8192x8192, .i32⟩
  | .hbm, ⟨59, _⟩ => ⟨S_, .i32⟩
  | .hbm, ⟨60, _⟩ => ⟨S8192x8192, .i32⟩
  | .hbm, ⟨61, _⟩ => ⟨S8192x8192, .i32⟩
  | .hbm, ⟨62, _⟩ => ⟨S8192x8192, .i1⟩
  | .hbm, ⟨63, _⟩ => ⟨S8192x8192, .f32⟩
  | .hbm, ⟨64, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_values : Ref sig .tc := ⟨.hbm, 26, rfl⟩
abbrev main_indices : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_call2_cst : Ref sig .tc := ⟨.hbm, 53, rfl⟩
abbrev main_call2_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Proof.KI.Norm.lean ====
/- The normalising region of KernelIdeal: what its body leaves in the output's buffer, and that it runs. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of long axes recurses once per coordinate
set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 0 of the program: custom_call 0, `cc0__normalize_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S8192x128 := Rect.unit (s := S8192x128) ![0, 0] S8192x128.size inb_S8192x128_S8192x128_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S8192x128 .f32) : Vec F S8192x128 .f32 :=
  View.canon [⟨r0_0, k0_pay1 (View.ld x0 r0_0)⟩]

/-- Its stores tile the buffer (checked by evaluation), so they cover it. -/
theorem cover0_1 (p0 : Vec F S8192x128 .f32) (y : S8192x128.Idx) :
    ∃ pc ∈ ([⟨r0_0, p0⟩] : List (View.Piece (Elt F) S8192x128 .f32)), y ∈ pc.1.set :=
  View.cover_of_tiled [⟨r0_0, p0⟩] S8192x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel0 (c : Dev nD) (E : Set ℕ) (arg0 : Memref sig .tc .vmem S8192x128 .f32) (harg0 : arg0.IsWhole) (arg1 : Memref sig .tc .vmem S8192x128 .f32) (harg1 : arg1.IsWhole)
    (x0 : Vec F S8192x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_body arg0 harg0 arg1 harg1) K := by
  simp only [cc0__normalize_body_eq_skeleton]; unfold cc0__normalize_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents, by projecting the definition (`dsimp`): a region record cites
    this for its arrays rather than have Lean unfold `V`, the fold through the program up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KI.Block.lean ====
/- The block region of KernelIdeal: its body's run on any staging buffers, the pieces it stores found by the run, and the region's proof data. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of long axes recurses once per coordinate
set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 1 of the program: custom_call 1, `cc1__block_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 2, through which its contents are stated (`View.read_writes_of_cover`: the
    choice does not matter). -/
abbrev VO1_2 : View sig .tc .vmem S256x8192 .f32 := (Memref.whole cc1_stg2_0 : Memref sig .tc .vmem S256x8192 .f32).view
/-- Each window's current staging memref at point `t`, spelled as the pipeline passes it (`bodyAt1`), and its wholeness. -/
abbrev ms1_0 (t : Fin cfg1.N) : Memref sig .tc .vmem S256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x8192 .f32 := win1_2.stage (cfg1.slots t 2)
abbrev hs1_2 (t : Fin cfg1.N) : (ms1_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`*_eq_skeleton`), which `sl_exec` runs (Lib/Exec.lean); the pieces are
    the witness that run finds (assigned when `iexact` hands the buffer to the continuation). -/
noncomputable def blockRun (c : Dev nD) (i : grid1.Coords) (arg1 : Memref sig .tc .vmem S256x128 .f32) (harg1 : arg1.IsWhole) (arg2 : Memref sig .tc .vmem S8192x128 .f32) (harg2 : arg2.IsWhole) (arg3 : Memref sig .tc .vmem S256x8192 .f32) (harg3 : arg3.IsWhole)
    (x0 : Vec F S256x128 .f32) (x1 : Vec F S8192x128 .f32) :
    { L2 : List (View.Piece (Elt F) S256x8192 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__block_body i arg1 harg1 arg2 harg2 arg3 harg3) K } := by
  refine ⟨?_, fun E K => ?run⟩
  case run =>
    simp only [cc1__block_body_eq_skeleton]; unfold cc1__block_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces cover the output's block: all but the last-written one (the diagonal tile, at an offset of the grid
    point's) are the 32 column blocks, which tile it. -/
theorem blockRun_cover (c : Dev nD) (i : grid1.Coords) (arg1 : Memref sig .tc .vmem S256x128 .f32) (harg1 : arg1.IsWhole) (arg2 : Memref sig .tc .vmem S8192x128 .f32) (harg2 : arg2.IsWhole) (arg3 : Memref sig .tc .vmem S256x8192 .f32) (harg3 : arg3.IsWhole)
    (x0 : Vec F S256x128 .f32) (x1 : Vec F S8192x128 .f32) (y : S256x8192.Idx) :
    ∃ pc ∈ (blockRun c i arg1 harg1 arg2 harg2 arg3 harg3 x0 x1).1, y ∈ pc.1.set :=
  let ⟨pc, h, hy⟩ := View.cover_of_tiledL (blockRun c i arg1 harg1 arg2 harg2 arg3 harg3 x0 x1).1.tail S256x256.size (by sl_kernel_rfl) y
  ⟨pc, List.mem_of_mem_tail h, hy⟩

/-- What the run leaves in output 2's staging buffer: its pieces read back over junk. -/
def blockOut (c : Dev nD) (i : grid1.Coords) (arg1 : Memref sig .tc .vmem S256x128 .f32) (harg1 : arg1.IsWhole) (arg2 : Memref sig .tc .vmem S8192x128 .f32) (harg2 : arg2.IsWhole) (arg3 : Memref sig .tc .vmem S256x8192 .f32) (harg3 : arg3.IsWhole)
    (x0 : Vec F S256x128 .f32) (x1 : Vec F S8192x128 .f32) : Vec F S256x8192 .f32 :=
  VO1_2.read (Elt F) (VO1_2.writes (Elt F) VO1_2.junk (blockRun c i arg1 harg1 arg2 harg2 arg3 harg3 x0 x1).1)

/-! ## What the outputs hold after each point -/

/-- What the outputs' staging buffers hold after the body at point `t`: the run's contents at
    the point's memrefs and input blocks. -/
def outsAt1 (c : Dev nD) (t : Fin cfg1.N) : Vec F S256x8192 .f32 :=
  blockOut c (grid1.coords t) (ms1_0 t) (hs1_0 t) (ms1_1 t) (hs1_1 t) (ms1_2 t) (hs1_2 t) (iblk1 V c 0 t) (iblk1 V c 1 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t)
  Φ _ := Pipeline.ΦA spec1 c
  q w := Pipeline.shareOf spec1 w
  owed _ := 0

/-- The proof data's arrays are the region-entry contents, by projecting the definition (`dsimp`): a region record cites
    this for its arrays rather than have Lean unfold `V`, the fold through the program up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outsAt1
  unfold blockOut
  iintro ⟨HΦ, Ho, ⟨%d0, H0⟩, ⟨%d1, H1⟩, ⟨%d2, H2⟩⟩
  iapply ((blockRun c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (blockRun_cover c _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KI.Run.lean ====
/- The run of KernelIdeal: the buffer contents at each region's boundary, and what every final state holds. -/
module

public import proofs.«01_k».proof.Proof.KI.Norm
public import proofs.«01_k».proof.Proof.KI.Block

@[expose] public section

-- membership in a rectangle of long axes recurses once per coordinate
set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: the program's segments from the launch to the return (Lib/Pipeline/Regions.lean `θ_run_regions_kit`) -/

/-- the program's argument arrays, as TensorCore references: what the frame claim reads back. -/
abbrev argRefs : List (Ref sig .tc) := [main_arg0]

/-! ## The buffer contents at each segment boundary: a fold through the program, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact (dat1 (V1 m ρ) c).withArrays_arrAt launch₀1.sharedIn _ (A_eq1 (V1 m ρ) c) w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: no host stretch writes one and no region may change one (a region reads it
    through an input window or bypasses it) -/

theorem W2_main_arg0 (c : Dev nD) : W2 m ρ c (Proc.devRef .tc main_arg0) = m ((c : Thread nD τ).loc main_arg0) :=
  W2_args m ρ c main_arg0 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W2`, the generator register at some state. -/
abbrev Tₙ (c : Dev nD) : sProp 𝕄 := iprop(StableHlo.held (c : Thread nD τ) (Pipeline.ucRefs τ sig) (W2 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## the program as segments, and the launch -/

/-- the program's 2 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ) ]
/-- the program IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution terminates, nothing faulting; every final state has the
    first result at what the second region's write-backs leave, the argument as launched and every counter at zero. -/
theorem run_result : θ_run defs (onTc (τ := τ) (main (F := F))) ⟨m, fun _ => 0, ρ⟩ (fun r => (∀ c : Dev nD,
      r.2.mem ((c.tc : Thread nD τ).loc main_v1) = W2 m ρ c (Proc.devRef .tc main_v1)
        ∧ r.2.mem ((c.tc : Thread nD τ).loc main_arg0) = m ((c.tc : Thread nD τ).loc main_arg0))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨h c _ (mem_uc main_v1 (by decide)), (h c _ (mem_uc main_arg0 (by decide))).trans (W2_main_arg0 m ρ c)⟩), funext fun g => hz g (.inr (no_unscoped g.2))⟩)

/-- The frame claim's statement: `run_result` without the result. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2, h.2⟩) (run_result m ρ)

end Cert.KernelIdeal.Hand

end
-- ==== Proof.Frames.lean ====
/- The frame claims of the three programs and the `preserves` claim's three named constants. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Run
public import proofs.«01_k».proof.Proof.KI.Run

@[expose] public section

noncomputable section

namespace Cert.Proof

open Idealize.ShloMosaic Idealize.SL.Sem

/-- The kernel as printed terminates without a fault, its argument unchanged and every counter at zero. -/
theorem frame_p : Cert.quiescent_Kernel := fun m ρ _ => Cert.Kernel.Hand.frame m ρ

/-- So does the idealized kernel. -/
theorem frame_pi : Cert.quiescent_KernelIdeal := fun m ρ _ => Cert.KernelIdeal.Hand.frame m ρ

/-- So does the reference, which has no semaphore. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The three named constants hold their table's values at the ideal instance. -/
theorem preserves : Cert.preserves_Kernel_KernelIdeal :=
  ⟨IdealRules.named_const.statement Cert.KernelIdeal.κ "eps2" .f32 0x179ABE15#32
      ((5316911940649 / 5316911983139663491615228241121378304 : ℝ) : EReal) rfl,
    IdealRules.named_const.statement Cert.KernelIdeal.κ "neg" .f32 0xFF61B1E6#32 ⊥ rfl,
    IdealRules.named_const.statement Cert.KernelIdeal.κ "scale" .f32 0x3DB504F3#32 ((1048576 / 11863283 : ℝ) : EReal) rfl⟩

end Cert.Proof

end
-- ==== Proof.Consts.lean ====
/- The constants the programs spell, as extended reals: the named ones by the table of names, the others by what their
patterns denote. -/
module

public import proofs.«01_k».proof.KernelIdeal
public import Idealize.ShloMosaic.PureOps.Ideal
public import Idealize.ShloMosaic.PureOps.IdealRules

@[expose] public section

noncomputable section

namespace Cert.Consts

open Idealize.ShloMosaic

/-- The kernel's scale, the reciprocal of √128 as f32 has it. -/
theorem named_scale : Named.named (F := Ideal) Cert.KernelIdeal.κ "scale" (φ := .f32) 0x3DB504F3#32 = ((1048576 / 11863283 : ℝ) : EReal) :=
  IdealRules.named_const.ideal_named_scalar _ _ _ _ rfl

/-- The fill of an empty place in a lane. -/
theorem named_neg : Named.named (F := Ideal) Cert.KernelIdeal.κ "neg" (φ := .f32) 0xFF61B1E6#32 = (⊥ : EReal) :=
  IdealRules.named_const.ideal_named_scalar _ _ _ _ rfl

/-- The floor of the sum of squares, the square of 1e-12 as f32 has it. -/
theorem named_eps2 : Named.named (F := Ideal) Cert.KernelIdeal.κ "eps2" (φ := .f32) 0x179ABE15#32 =
    ((5316911940649 / 5316911983139663491615228241121378304 : ℝ) : EReal) :=
  IdealRules.named_const.ideal_named_scalar _ _ _ _ rfl

/-- `0.0`. -/
theorem zero : Ideal.ofBits .f32 0x00000000#32 = 0 := by
  simp [Ideal.ofBits, Ideal.ieee]

/-- `1.0`. -/
theorem one : Ideal.ofBits .f32 0x3F800000#32 = 1 := by
  simp [Ideal.ofBits, Ideal.ieee, -EReal.coe_mul]; norm_num

/-- `3.0`. -/
theorem three : Ideal.ofBits .f32 0x40400000#32 = ((3 : ℝ) : EReal) := by
  simp [Ideal.ofBits, Ideal.ieee, -EReal.coe_mul]; norm_num

/-- −∞. -/
theorem ninf : Ideal.ofBits .f32 0xFF800000#32 = (⊥ : EReal) := by
  simp [Ideal.ofBits, Ideal.ieee]

/-- The reference's floor of the norm, 1e-12 as f32 has it. -/
theorem floor : Ideal.ofBits .f32 0x2B8CBCCC#32 = ((2305843 / 2305843009213693952 : ℝ) : EReal) := by
  simp [Ideal.ofBits, Ideal.ieee, -EReal.coe_mul]; norm_num

/-- The reference's divisor, √128 as f32 has it. -/
theorem root : Ideal.ofBits .f32 0x413504F3#32 = ((11863283 / 1048576 : ℝ) : EReal) := by
  simp [Ideal.ofBits, Ideal.ieee, -EReal.coe_mul]; norm_num

/-- The kernel's smallest threshold, 1e-30 as f32 has it. -/
theorem tiny : Ideal.ofBits .f32 0x0DA24260#32 = ((10633824 / 2 ^ 123 : ℝ) : EReal) := by
  simp [Ideal.ofBits, Ideal.ieee, -EReal.coe_mul]; norm_num

/-- The mask's smallest positive cosine, 2e-29 as f32 has it. -/
theorem small : Ideal.ofBits .f32 0x0FCAD2F8#32 = ((13292280 / 2 ^ 119 : ℝ) : EReal) := by
  simp [Ideal.ofBits, Ideal.ieee, -EReal.coe_mul]; norm_num

end Cert.Consts

end

end
-- ==== Proof.Spec.lean ====
/- What both programs compute of one row, as extended reals: the normalised embedding, the cosines and the similarities. -/
module

public import proofs.«01_k».proof.Proof.Consts

@[expose] public section

noncomputable section

namespace Cert.Spec

open Idealize.ShloMosaic

/-- A row's sum of squares. -/
def sq (x : Fin 128 → EReal) : EReal := ∑ d, x d * x d

/-- The reference's floor of the norm. -/
def floor : EReal := ((2305843 / 2305843009213693952 : ℝ) : EReal)

/-- The kernel's scale. -/
def scale : EReal := ((1048576 / 11863283 : ℝ) : EReal)

/-- The normalised row, as the reference writes it. -/
def emb (x : Fin 128 → EReal) (d : Fin 128) : EReal := Ideal.div (x d) (max (Ideal.sqrt (sq x)) floor)

/-- Two rows' cosine. -/
def cosv (x y : Fin 128 → EReal) : EReal := ∑ d, emb x d * emb y d

/-- Two rows' similarity. -/
def sim (x y : Fin 128 → EReal) : EReal := cosv x y * scale

theorem mul_self_nonneg (x : EReal) : 0 ≤ x * x := by
  rcases le_total 0 x with h | h
  · exact EReal.mul_nonneg h h
  · exact EReal.mul_nonneg_iff.mpr (.inr ⟨h, h⟩)

theorem sq_nonneg (x : Fin 128 → EReal) : 0 ≤ sq x := Finset.sum_nonneg fun d _ => mul_self_nonneg _

theorem coe_max (a b : ℝ) : max (a : EReal) (b : EReal) = ((max a b : ℝ) : EReal) := (EReal.coe_strictMono.monotone.map_max).symm

/-- Scaling by the reciprocal root of the floored sum of squares is dividing by the floored norm. -/
theorem rsqrt_eq (x : EReal) (s : EReal) (hs : 0 ≤ s) :
    x * Ideal.rsqrt (max s ((5316911940649 / 5316911983139663491615228241121378304 : ℝ) : EReal)) = Ideal.div x (max (Ideal.sqrt s) floor) := by
  induction s with
  | bot => exact absurd hs (by simp)
  | top =>
    rw [max_eq_left le_top]
    have h1 : Ideal.sqrt ⊤ = ⊤ := rfl
    have h2 : Ideal.rsqrt ⊤ = 0 := rfl
    rw [h1, h2, max_eq_left le_top, mul_zero, Ideal.div, if_neg (by simp), EReal.inv_top, mul_zero]
  | coe r =>
    have hr : 0 ≤ r := EReal.coe_nonneg.mp hs
    have hq : (5316911940649 / 5316911983139663491615228241121378304 : ℝ) = (2305843 / 2305843009213693952 : ℝ) ^ 2 := by norm_num
    have hqp : (0 : ℝ) < 2305843 / 2305843009213693952 := by norm_num
    have hm : 0 < max r ((2305843 / 2305843009213693952 : ℝ) ^ 2) := lt_max_of_lt_right (by positivity)
    have hroot : Real.sqrt (max r ((2305843 / 2305843009213693952 : ℝ) ^ 2)) = max (Real.sqrt r) (2305843 / 2305843009213693952) := by
      rw [Real.sqrt_monotone.map_max, Real.sqrt_sq hqp.le]
    have hpos : 0 < max (Real.sqrt r) (2305843 / 2305843009213693952) := lt_max_of_lt_right hqp
    have h1 : Ideal.sqrt (r : EReal) = ((Real.sqrt r : ℝ) : EReal) := by
      show (if r < 0 then (⊥ : EReal) else _) = _
      rw [if_neg hr.not_gt]
    have h2 : Ideal.rsqrt ((max r ((2305843 / 2305843009213693952 : ℝ) ^ 2) : ℝ) : EReal) =
        (((max (Real.sqrt r) (2305843 / 2305843009213693952))⁻¹ : ℝ) : EReal) := by
      show (if _ < 0 then (⊥ : EReal) else if _ = 0 then ⊤ else _) = _
      rw [if_neg hm.not_gt, if_neg hm.ne', hroot]
    rw [hq, coe_max, h2, h1, floor, coe_max, Ideal.div, if_neg (by exact_mod_cast hpos.ne'), ← EReal.coe_inv]

/-- A finite sum of reals is real. -/
theorem sum_real (f : Fin 128 → EReal) (h : ∀ d, ∃ r : ℝ, f d = r) : ∃ r : ℝ, ∑ d, f d = r := by
  refine Finset.sum_induction f (fun y => ∃ r : ℝ, y = r) ?_ ⟨0, rfl⟩ fun d _ => h d
  rintro _ _ ⟨a, rfl⟩ ⟨b, rfl⟩
  exact ⟨a + b, rfl⟩

/-- Every element of a normalised row is real, whatever the row holds. -/
theorem emb_real (x : Fin 128 → EReal) (d : Fin 128) : ∃ r : ℝ, emb x d = r := by
  unfold emb
  have hs := sq_nonneg x
  have hle : x d * x d ≤ sq x := Finset.single_le_sum (f := fun d => x d * x d) (fun d _ => mul_self_nonneg _) (Finset.mem_univ d)
  generalize sq x = s at hs hle
  induction s with
  | bot => exact absurd hs (by simp)
  | top =>
    have h1 : Ideal.sqrt ⊤ = ⊤ := rfl
    rw [h1, max_eq_left le_top, Ideal.div, if_neg (by simp), EReal.inv_top, mul_zero]
    exact ⟨0, rfl⟩
  | coe r =>
    have hr : 0 ≤ r := EReal.coe_nonneg.mp hs
    have h1 : Ideal.sqrt (r : EReal) = ((Real.sqrt r : ℝ) : EReal) := by
      show (if r < 0 then (⊥ : EReal) else _) = _
      rw [if_neg hr.not_gt]
    have hqp : (0 : ℝ) < 2305843 / 2305843009213693952 := by norm_num
    have hpos : 0 < max (Real.sqrt r) (2305843 / 2305843009213693952) := lt_max_of_lt_right hqp
    rw [h1, floor, coe_max, Ideal.div, if_neg (by exact_mod_cast hpos.ne'), ← EReal.coe_inv]
    generalize x d = y at hle
    induction y with
    | bot => simp at hle
    | top => simp at hle
    | coe y => exact ⟨y * _, rfl⟩

/-- Every cosine is real. -/
theorem cosv_real (x y : Fin 128 → EReal) : ∃ r : ℝ, cosv x y = r := by
  refine sum_real _ fun d => ?_
  obtain ⟨a, ha⟩ := emb_real x d
  obtain ⟨b, hb⟩ := emb_real y d
  exact ⟨a * b, by rw [ha, hb]; rfl⟩

theorem scale_pos : (0 : ℝ) < 1048576 / 11863283 := by norm_num

/-- Scaling keeps the order of the cosines. -/
theorem sim_le (x y x' y' : Fin 128 → EReal) : sim x y ≤ sim x' y' ↔ cosv x y ≤ cosv x' y' := by
  unfold sim scale
  obtain ⟨a, ha⟩ := cosv_real x y
  obtain ⟨b, hb⟩ := cosv_real x' y'
  rw [ha, hb, ← EReal.coe_mul, ← EReal.coe_mul, EReal.coe_le_coe_iff, EReal.coe_le_coe_iff]
  exact mul_le_mul_iff_left₀ scale_pos

theorem sim_nonpos (x y : Fin 128 → EReal) : sim x y ≤ 0 ↔ cosv x y ≤ 0 := by
  unfold sim scale
  obtain ⟨a, ha⟩ := cosv_real x y
  rw [ha, ← EReal.coe_mul, EReal.coe_nonpos, EReal.coe_nonpos]
  exact ⟨fun h => by by_contra hn; exact absurd h (not_le.mpr (mul_pos (not_le.mp hn) scale_pos)), fun h => mul_nonpos_of_nonpos_of_nonneg h scale_pos.le⟩

/-- Dividing by √128 is the same as scaling. -/
theorem div_root (x : EReal) : Ideal.div x ((11863283 / 1048576 : ℝ) : EReal) = x * scale := by
  rw [Ideal.div_coe (by norm_num)]
  unfold scale
  norm_num

/-- A similarity is above −∞. -/
theorem bot_lt_sim (x y : Fin 128 → EReal) : ⊥ < sim x y := by
  unfold sim scale
  obtain ⟨a, ha⟩ := cosv_real x y
  rw [ha, ← EReal.coe_mul]
  exact EReal.bot_lt_coe _

/-- A cosine of 2e-29 or more is a similarity of 1e-30 or more. -/
theorem tiny_le (x y : Fin 128 → EReal) (h : ((13292280 / 2 ^ 119 : ℝ) : EReal) ≤ cosv x y) : ((10633824 / 2 ^ 123 : ℝ) : EReal) ≤ sim x y := by
  unfold sim scale
  obtain ⟨a, ha⟩ := cosv_real x y
  rw [ha] at h ⊢
  rw [← EReal.coe_mul, EReal.coe_le_coe_iff]
  rw [EReal.coe_le_coe_iff] at h
  refine le_trans ?_ (mul_le_mul_of_nonneg_right h scale_pos.le)
  norm_num

end Cert.Spec

end

end
-- ==== Proof.Rows.lean ====
/- The argument's rows, and the similarities of one row with every other. -/
module

public import proofs.«01_k».proof.Proof.Spec
public import Idealize.ShloMosaic.Lib.Pointwise

@[expose] public section

noncomputable section

namespace Cert.Rows

open Idealize.ShloMosaic

/-- The programs' argument: 8192 rows of 128. -/
abbrev Arg := FVec Ideal ⟨2, ![8192, 128]⟩ .f32

/-- Row `i` of the argument. -/
abbrev rowOf (x : Arg) (i : Fin 8192) : Fin 128 → EReal := fun d => x (ix2 i d)

/-- Row `i`'s similarities. -/
abbrev simRow (x : Arg) (i : Fin 8192) : Fin 8192 → EReal := fun k => Cert.Spec.sim (rowOf x i) (rowOf x k)

end Cert.Rows

end

end
-- ==== Proof.Row.lean ====
/- One row of the block kernel, apart from the machine: 256 lanes that each keep their three largest values, and thirty
pops of the row's maximum. What is left at the head of the lanes is the row's 31st largest value. -/
module

public import Mathlib.Data.EReal.Basic
public import Mathlib.Data.EReal.Operations
public import Mathlib.Algebra.BigOperators.Fin
public import Mathlib.Logic.Equiv.Fin.Basic
public import Mathlib.Algebra.Order.BigOperators.Group.Finset
public import Mathlib.Data.Fintype.BigOperators

@[expose] public section

noncomputable section

namespace Cert.Row

open Finset

/-- A lane's three kept values, largest first. -/
abbrev Cell : Type := EReal × EReal × EReal

/-- A value sinks into a lane: each place keeps the larger and hands the smaller on. -/
def ins (r : Cell) (s : EReal) : Cell :=
  (max r.1 s, max r.2.1 (min r.1 s), max r.2.2 (min r.2.1 (min r.1 s)))

/-- A lane after the first `n` of its values. -/
def cells (a : ℕ → EReal) : ℕ → Cell
  | 0 => (⊥, ⊥, ⊥)
  | n + 1 => ins (cells a n) (a n)

/-- How many of the first `n` values reach `x`. -/
def cnt (a : ℕ → EReal) (x : EReal) (n : ℕ) : ℕ := #{c ∈ range n | x ≤ a c}

theorem cnt_succ (a : ℕ → EReal) (x : EReal) (n : ℕ) : cnt a x (n + 1) = cnt a x n + if x ≤ a n then 1 else 0 := by
  unfold cnt
  rw [range_add_one, filter_insert]
  split
  · rw [card_insert_of_notMem (by simp)]
  · rfl

/-- The kept values reach `x` exactly where one, two, three of the lane's values do. -/
theorem le_cells (a : ℕ → EReal) (x : EReal) (hx : ⊥ < x) (n : ℕ) :
    (x ≤ (cells a n).1 ↔ 1 ≤ cnt a x n) ∧ (x ≤ (cells a n).2.1 ↔ 2 ≤ cnt a x n) ∧ (x ≤ (cells a n).2.2 ↔ 3 ≤ cnt a x n) := by
  induction n with
  | zero => simp [cells, cnt, hx.ne']
  | succ n ih =>
    obtain ⟨h0, h1, h2⟩ := ih
    rw [cnt_succ]
    simp only [cells, ins, le_max_iff, le_min_iff, h0, h1, h2]
    by_cases h : x ≤ a n
    · simp only [h, if_true, and_true, or_true, true_iff]
      omega
    · simp only [h, if_false, and_false, or_false, add_zero, and_self]

/-- A kept value other than the fill is one of the lane's. -/
theorem cells_mem (a : ℕ → EReal) (n : ℕ) (y : EReal) (hy : ⊥ < y)
    (h : y = (cells a n).1 ∨ y = (cells a n).2.1 ∨ y = (cells a n).2.2) : ∃ c < n, a c = y := by
  induction n generalizing y with
  | zero => simp only [cells, or_self] at h; exact absurd h hy.ne'
  | succ n ih =>
    have key : ∀ z, (z = (cells a n).1 ∨ z = (cells a n).2.1 ∨ z = (cells a n).2.2) ∨ z = a n → ⊥ < z → ∃ c < n + 1, a c = z := by
      rintro z (hz | rfl) hb
      · obtain ⟨c, hc, e⟩ := ih z hb hz
        exact ⟨c, by omega, e⟩
      · exact ⟨n, by omega, rfl⟩
    refine key y ?_ hy
    have M : ∀ p q z : EReal, z = max p q → z = p ∨ z = q := fun p q z e => by
      rcases max_choice p q with e' | e' <;> rw [e'] at e
      · exact .inl e
      · exact .inr e
    have m : ∀ p q z : EReal, z = min p q → z = p ∨ z = q := fun p q z e => by
      rcases min_choice p q with e' | e' <;> rw [e'] at e
      · exact .inl e
      · exact .inr e
    simp only [cells, ins] at h
    rcases h with h | h | h
    · rcases M _ _ _ h with h | h
      · exact .inl (.inl h)
      · exact .inr h
    · rcases M _ _ _ h with h | h
      · exact .inl (.inr (.inl h))
      · rcases m _ _ _ h with h | h
        · exact .inl (.inl h)
        · exact .inr h
    · rcases M _ _ _ h with h | h
      · exact .inl (.inr (.inr h))
      · rcases m _ _ _ h with h | h
        · exact .inl (.inr (.inl h))
        · rcases m _ _ _ h with h | h
          · exact .inl (.inl h)
          · exact .inr h

/-- The kept values stand in order. -/
theorem cells_sorted (a : ℕ → EReal) (n : ℕ) : (cells a n).2.1 ≤ (cells a n).1 ∧ (cells a n).2.2 ≤ (cells a n).2.1 := by
  constructor
  · rcases eq_bot_or_bot_lt (cells a n).2.1 with h | h
    · rw [h]; exact bot_le
    · have := le_cells a _ h n
      exact this.1.2 (le_trans (by omega) (this.2.1.1 le_rfl))
  · rcases eq_bot_or_bot_lt (cells a n).2.2 with h | h
    · rw [h]; exact bot_le
    · have := le_cells a _ h n
      exact this.2.1.2 (le_trans (by omega) (this.2.2.1 le_rfl))

/-- The row's largest head. -/
def top {L : ℕ} (C : Fin L → Cell) : EReal := univ.sup fun l => (C l).1

/-- One pop: every lane whose head is `m` drops it. -/
def popCell (m : EReal) (c : Cell) : Cell := if c.1 = m then (c.2.1, c.2.2, ⊥) else c

/-- One pop of the row. -/
def pop {L : ℕ} (C : Fin L → Cell) : Fin L → Cell := fun l => popCell (top C) (C l)

/-- The row after `n` pops. -/
def pops {L : ℕ} (C : Fin L → Cell) : ℕ → Fin L → Cell
  | 0 => C
  | n + 1 => pop (pops C n)

/-- How many of a lane's three values reach `x`. -/
def cellCnt (x : EReal) (c : Cell) : ℕ := (if x ≤ c.1 then 1 else 0) + (if x ≤ c.2.1 then 1 else 0) + (if x ≤ c.2.2 then 1 else 0)

/-- How many of the row's kept values reach `x`. -/
def rowCnt {L : ℕ} (x : EReal) (C : Fin L → Cell) : ℕ := ∑ l, cellCnt x (C l)

/-- A row whose lanes stand in order. -/
def Sorted {L : ℕ} (C : Fin L → Cell) : Prop := ∀ l, (C l).2.1 ≤ (C l).1 ∧ (C l).2.2 ≤ (C l).2.1

theorem sorted_pop {L : ℕ} {C : Fin L → Cell} (h : Sorted C) : Sorted (pop C) := by
  intro l
  unfold pop popCell
  split
  · exact ⟨(h l).2, bot_le⟩
  · exact h l

theorem sorted_pops {L : ℕ} {C : Fin L → Cell} (h : Sorted C) (n : ℕ) : Sorted (pops C n) := by
  induction n with
  | zero => exact h
  | succ n ih => exact sorted_pop ih

theorem cellCnt_pop_le {x m : EReal} (hx : ⊥ < x) (c : Cell) (hs : c.2.1 ≤ c.1 ∧ c.2.2 ≤ c.2.1) :
    cellCnt x (popCell m c) ≤ cellCnt x c := by
  unfold popCell
  split
  · unfold cellCnt
    simp only [hx.not_ge, if_false]
    omega
  · exact le_rfl

theorem cellCnt_pop_hit {x m : EReal} (hx : ⊥ < x) (c : Cell) (hm : c.1 = m) (hxm : x ≤ m) :
    cellCnt x (popCell m c) + 1 = cellCnt x c := by
  unfold popCell
  rw [if_pos hm]
  unfold cellCnt
  simp only [hx.not_ge, if_false]
  rw [← hm] at hxm
  rw [if_pos hxm]
  omega

theorem cellCnt_eq_zero {x : EReal} (c : Cell) (hs : c.2.1 ≤ c.1 ∧ c.2.2 ≤ c.2.1) (h : ¬ x ≤ c.1) : cellCnt x c = 0 := by
  unfold cellCnt
  rw [if_neg h, if_neg (fun h' => h (h'.trans hs.1)), if_neg (fun h' => h (h'.trans (hs.2.trans hs.1)))]

theorem exists_top {L : ℕ} (C : Fin L → Cell) (x : EReal) (hx : ⊥ < x) (h : x ≤ top C) : ∃ l, (C l).1 = top C := by
  have hne : (univ : Finset (Fin L)).Nonempty := by
    rcases (univ : Finset (Fin L)).eq_empty_or_nonempty with e | e
    · unfold top at h; rw [e, sup_empty] at h; exact absurd h hx.not_ge
    · exact e
  obtain ⟨l, -, hl⟩ := exists_mem_eq_sup univ hne (fun l => (C l).1)
  exact ⟨l, hl.symm⟩

/-- Where some kept value reaches `x`, the largest head does. -/
theorem le_top_of_pos {L : ℕ} {C : Fin L → Cell} (hs : Sorted C) {x : EReal} (h : 0 < rowCnt x C) : x ≤ top C := by
  by_contra hx
  have : rowCnt x C = 0 := by
    unfold rowCnt
    refine sum_eq_zero fun l _ => cellCnt_eq_zero _ (hs l) fun h' => hx (h'.trans ?_)
    exact le_sup (f := fun l => (C l).1) (mem_univ l)
  omega

/-- A pop drops at least one of the values that reach `x`. -/
theorem rowCnt_pop_le {L : ℕ} {C : Fin L → Cell} (hs : Sorted C) {x : EReal} (hx : ⊥ < x) : rowCnt x (pop C) ≤ rowCnt x C - 1 := by
  have hle : ∀ l ∈ (univ : Finset (Fin L)), cellCnt x (pop C l) ≤ cellCnt x (C l) := fun l _ => cellCnt_pop_le hx _ (hs l)
  rcases Nat.eq_zero_or_pos (rowCnt x C) with h | h
  · have : rowCnt x (pop C) ≤ rowCnt x C := sum_le_sum hle
    omega
  · have ht := le_top_of_pos hs h
    obtain ⟨l, hl⟩ := exists_top C x hx ht
    have hlt : rowCnt x (pop C) < rowCnt x C := by
      refine sum_lt_sum hle ⟨l, mem_univ l, ?_⟩
      have := cellCnt_pop_hit hx (C l) hl ht
      show cellCnt x (popCell (top C) (C l)) < _
      omega
    omega

theorem rowCnt_pops_le {L : ℕ} {C : Fin L → Cell} (hs : Sorted C) {x : EReal} (hx : ⊥ < x) (n : ℕ) : rowCnt x (pops C n) ≤ rowCnt x C - n := by
  induction n with
  | zero => exact le_rfl
  | succ n ih =>
    have := rowCnt_pop_le (sorted_pops hs n) hx
    show rowCnt x (pop (pops C n)) ≤ _
    omega

/-- A pop drops at most one of the values that reach `x`, where no two lanes' heads that reach `x` are equal. -/
theorem le_rowCnt_pop {L : ℕ} {C : Fin L → Cell} (hs : Sorted C) {x : EReal} (hx : ⊥ < x)
    (hd : ∀ l l', (C l).1 = (C l').1 → x ≤ (C l).1 → l = l') : rowCnt x C ≤ rowCnt x (pop C) + 1 := by
  by_cases ht : x ≤ top C
  · obtain ⟨l, hl⟩ := exists_top C x hx ht
    unfold rowCnt
    rw [← add_sum_erase univ _ (mem_univ l), ← add_sum_erase univ (fun l => cellCnt x (pop C l)) (mem_univ l)]
    have h1 := cellCnt_pop_hit hx (C l) hl ht
    have h2 : ∑ l' ∈ univ.erase l, cellCnt x (C l') = ∑ l' ∈ univ.erase l, cellCnt x (pop C l') := by
      refine sum_congr rfl fun l' hl' => ?_
      have hne : l' ≠ l := (mem_erase.mp hl').1
      unfold pop popCell
      rw [if_neg]
      intro e
      exact hne (hd l' l (e.trans hl.symm) (e ▸ ht))
    have h3 : cellCnt x (pop C l) = cellCnt x (popCell (top C) (C l)) := rfl
    rw [h2, h3]
    omega
  · have : rowCnt x C = 0 := by
      by_contra h
      exact ht (le_top_of_pos hs (Nat.pos_of_ne_zero h))
    omega

/-- `y` is one of the lane's three values. -/
def In (y : EReal) (c : Cell) : Prop := y = c.1 ∨ y = c.2.1 ∨ y = c.2.2

theorem in_pops {L : ℕ} {C : Fin L → Cell} {y : EReal} (hy : ⊥ < y) (n : ℕ) (l : Fin L) (h : In y (pops C n l)) : In y (C l) := by
  induction n with
  | zero => exact h
  | succ n ih =>
    apply ih
    change In y (popCell (top (pops C n)) (pops C n l)) at h
    unfold popCell at h
    unfold In at h ⊢
    split at h
    · rcases h with h | h | h
      · exact .inr (.inl h)
      · exact .inr (.inr h)
      · exact absurd h hy.ne'
    · exact h

theorem le_rowCnt_pops {L : ℕ} {C : Fin L → Cell} (hs : Sorted C) {x : EReal} (hx : ⊥ < x)
    (hd : ∀ l l' y, x ≤ y → In y (C l) → In y (C l') → l = l') (n : ℕ) : rowCnt x C ≤ rowCnt x (pops C n) + n := by
  induction n with
  | zero => exact le_rfl
  | succ n ih =>
    have := le_rowCnt_pop (sorted_pops hs n) hx (fun l l' e h =>
      hd l l' _ h (in_pops (hx.trans_le h) n l (.inl rfl)) (in_pops (hx.trans_le h) n l' (.inl e)))
    show _ ≤ rowCnt x (pop (pops C n)) + _
    omega

/-! ## The row of 32 chunks of 256 lanes -/

/-- Column `256 c + l`. -/
def col (c : ℕ) (hc : c < 32) (l : Fin 256) : Fin 8192 := ⟨256 * c + l.val, by omega⟩

/-- A row's values down one lane (past the last chunk nothing). -/
def lane (s : Fin 8192 → EReal) (l : Fin 256) (c : ℕ) : EReal := if h : c < 32 then s (col c h l) else ⊥

/-- The row's lanes after all 32 chunks. -/
def init (s : Fin 8192 → EReal) : Fin 256 → Cell := fun l => cells (lane s l) 32

/-- What is left at the head after thirty pops. -/
def left (s : Fin 8192 → EReal) : EReal := top (pops (init s) 30)

theorem sorted_init (s : Fin 8192 → EReal) : Sorted (init s) := fun l => cells_sorted _ _

/-- Columns are pairs of a chunk and a lane. -/
def colEquiv : Fin 32 × Fin 256 ≃ Fin 8192 := finProdFinEquiv

theorem colEquiv_apply (c : Fin 32) (l : Fin 256) : colEquiv (c, l) = col c.val c.isLt l := by
  apply Fin.ext
  show l.val + 256 * c.val = 256 * c.val + l.val
  omega

theorem cnt_lane (s : Fin 8192 → EReal) (l : Fin 256) (x : EReal) :
    cnt (lane s l) x 32 = ∑ c : Fin 32, if x ≤ s (col c.val c.isLt l) then 1 else 0 := by
  unfold cnt
  rw [card_filter, ← Fin.sum_univ_eq_sum_range (fun c => if x ≤ lane s l c then 1 else 0) 32]
  refine sum_congr rfl fun c _ => ?_
  unfold lane
  rw [dif_pos c.isLt]

/-- The lanes' counts add up to the row's. -/
theorem sum_cnt (s : Fin 8192 → EReal) (x : EReal) : ∑ l, cnt (lane s l) x 32 = #{k | x ≤ s k} := by
  rw [card_filter, ← colEquiv.sum_comp, Fintype.sum_prod_type, sum_comm]
  refine sum_congr rfl fun l _ => ?_
  rw [cnt_lane]
  refine sum_congr rfl fun c _ => ?_
  rw [colEquiv_apply]

theorem cellCnt_init (s : Fin 8192 → EReal) (l : Fin 256) (x : EReal) (hx : ⊥ < x) :
    cellCnt x (init s l) = min 3 (cnt (lane s l) x 32) := by
  obtain ⟨h0, h1, h2⟩ := le_cells (lane s l) x hx 32
  unfold cellCnt init
  simp only [h0, h1, h2]
  split <;> split <;> split <;> omega

/-- Where at most 30 columns lie above `v`, what is left is at most `v`. -/
theorem left_le (s : Fin 8192 → EReal) (v : EReal) (h : ∀ x, v < x → #{k | x ≤ s k} ≤ 30) : left s ≤ v := by
  by_contra hlt
  rw [not_le] at hlt
  have hx : ⊥ < left s := bot_le.trans_lt hlt
  have h1 := rowCnt_pops_le (sorted_init s) hx 30
  have h2 : rowCnt (left s) (init s) ≤ 30 := by
    refine le_trans ?_ (h _ hlt)
    rw [← sum_cnt]
    refine sum_le_sum fun l _ => ?_
    rw [cellCnt_init s l _ hx]
    exact min_le_right _ _
  obtain ⟨l, hl⟩ := exists_top (pops (init s) 30) (left s) hx le_rfl
  have h3 : 1 ≤ rowCnt (left s) (pops (init s) 30) := by
    have : cellCnt (left s) (pops (init s) 30 l) ≤ rowCnt (left s) (pops (init s) 30) :=
      single_le_sum (f := fun l => cellCnt (left s) (pops (init s) 30 l)) (fun _ _ => Nat.zero_le _) (mem_univ l)
    refine le_trans ?_ this
    unfold cellCnt
    rw [if_pos (by rw [hl]; exact le_rfl)]
    omega
  omega

/-- Where at least 31 columns reach `v`, no two of them equal and no more than three of them in a lane, what is left is at
    least `v`. -/
theorem le_left (s : Fin 8192 → EReal) (v : EReal) (hv : ⊥ < v) (h31 : 31 ≤ #{k | v ≤ s k})
    (hl : ∀ l, cnt (lane s l) v 32 ≤ 3) (hd : ∀ k k', v ≤ s k → s k = s k' → k = k') : v ≤ left s := by
  have h0 : 31 ≤ rowCnt v (init s) := by
    rw [← sum_cnt] at h31
    refine h31.trans (sum_le_sum fun l _ => ?_)
    rw [cellCnt_init s l _ hv, min_eq_right (hl l)]
  have hmem : ∀ l y, v ≤ y → In y (init s l) → ∃ c, ∃ hc : c < 32, s (col c hc l) = y := by
    intro l y hy hin
    obtain ⟨c, hc, e⟩ := cells_mem (lane s l) 32 y (hv.trans_le hy) hin
    refine ⟨c, hc, ?_⟩
    unfold lane at e
    rwa [dif_pos hc] at e
  have h1 := le_rowCnt_pops (sorted_init s) hv (fun l l' y hy hin hin' => by
    obtain ⟨c, hc, e⟩ := hmem l y hy hin
    obtain ⟨c', hc', e'⟩ := hmem l' y hy hin'
    have hk := hd _ _ (e ▸ hy) (e.trans e'.symm)
    have hk' : 256 * c + l.val = 256 * c' + l'.val := congrArg Fin.val hk
    apply Fin.ext
    omega) 30
  exact le_top_of_pos (sorted_pops (sorted_init s) 30) (by omega)

end Cert.Row

end

end
-- ==== Proof.RowEq.lean ====
/- One row of the result, apart from the machine: thresholding the row at what the thirty pops leave is picking the thirty
largest values beside the row's own. -/
module

public import proofs.«01_k».proof.Proof.Row

@[expose] public section

noncomputable section

namespace Cert.Row

open Finset

/-- A listing of the columns by falling value. -/
structure Falls (s : Fin 8192 → EReal) (σ : Fin 8192 → Fin 8192) : Prop where
  bij : Function.Bijective σ
  anti : ∀ i j, i < j → s (σ j) ≤ s (σ i)

theorem Falls.le {s : Fin 8192 → EReal} {σ : Fin 8192 → Fin 8192} (h : Falls s σ) {i j : Fin 8192} (hij : i ≤ j) : s (σ j) ≤ s (σ i) := by
  rcases hij.eq_or_lt with e | e
  · rw [e]
  · exact h.anti i j e

theorem card_lt (p : ℕ) (hp : p ≤ 8192) : #{j : Fin 8192 | j.val < p} = p := by
  have : ({j : Fin 8192 | j.val < p} : Finset _) = (univ : Finset (Fin p)).map (Fin.castLEEmb hp) := by
    ext j
    simp only [mem_filter, mem_univ, true_and, mem_map, Fin.castLEEmb_apply]
    constructor
    · intro h; exact ⟨⟨j.val, h⟩, rfl⟩
    · rintro ⟨a, rfl⟩; exact a.isLt
  rw [this, card_map, card_univ, Fintype.card_fin]

/-- Above the listing's place `p` there are at most `p` columns. -/
theorem Falls.card_le {s : Fin 8192 → EReal} {σ : Fin 8192 → Fin 8192} (h : Falls s σ) (p : Fin 8192) (x : EReal) (hx : s (σ p) < x) :
    #{k | x ≤ s k} ≤ p.val := by
  have hsub : ({k | x ≤ s k} : Finset _) ⊆ ({j : Fin 8192 | j.val < p.val} : Finset _).image σ := by
    intro k hk
    obtain ⟨j, rfl⟩ := h.bij.2 k
    rw [mem_filter] at hk
    refine mem_image.mpr ⟨j, mem_filter.mpr ⟨mem_univ _, ?_⟩, rfl⟩
    by_contra hj
    exact absurd (hk.2.trans (h.le (Fin.le_def.mpr (not_lt.mp hj)))) hx.not_ge
  exact (Finset.card_le_card hsub).trans (card_image_le.trans (card_lt _ p.isLt.le).le)

/-- Place `p` of the listing. -/
abbrev at_ (p : ℕ) (hp : p < 8192) : Fin 8192 := ⟨p, hp⟩

/-- The first 31 places fall strictly, and so does the 32nd. -/
def Strict (s : Fin 8192 → EReal) (σ : Fin 8192 → Fin 8192) : Prop :=
  ∀ p (hp : p < 31), s (σ (at_ (p + 1) (by omega))) < s (σ (at_ p (by omega)))

theorem Strict.lt {s : Fin 8192 → EReal} {σ : Fin 8192 → Fin 8192} (h : Falls s σ) (hs : Strict s σ) {i j : Fin 8192} (hij : i < j)
    (hi : i.val ≤ 30) : s (σ j) < s (σ i) := by
  refine lt_of_le_of_lt (h.le (i := at_ (i.val + 1) (by omega)) ?_) (hs i.val (by omega))
  exact Fin.le_def.mpr hij

theorem Strict.reach {s : Fin 8192 → EReal} {σ : Fin 8192 → Fin 8192} (h : Falls s σ) (hs : Strict s σ) (j : Fin 8192) :
    s (σ (at_ 30 (by omega))) ≤ s (σ j) ↔ j.val ≤ 30 := by
  constructor
  · intro hj
    by_contra hlt
    exact absurd hj (Strict.lt h hs (i := at_ 30 (by omega)) (j := j) (Fin.lt_def.mpr (by show 30 < j.val; omega)) le_rfl).not_ge
  · intro hj
    exact h.le (Fin.le_def.mpr hj)

theorem Strict.card {s : Fin 8192 → EReal} {σ : Fin 8192 → Fin 8192} (h : Falls s σ) (hs : Strict s σ) :
    #{k | s (σ (at_ 30 (by omega))) ≤ s k} = 31 := by
  have : ({k | s (σ (at_ 30 (by omega))) ≤ s k} : Finset _) = ({j : Fin 8192 | j.val < 31} : Finset _).image σ := by
    ext k
    obtain ⟨j, rfl⟩ := h.bij.2 k
    rw [mem_filter, mem_image, Strict.reach h hs]
    constructor
    · rintro ⟨-, hj⟩; exact ⟨j, mem_filter.mpr ⟨mem_univ _, by omega⟩, rfl⟩
    · rintro ⟨j', hj', e⟩
      obtain rfl := h.bij.1 e
      have := (mem_filter.mp hj').2
      exact ⟨mem_univ _, by omega⟩
  rw [this, card_image_of_injective _ h.bij.1, card_lt _ (by omega)]

theorem Strict.inj {s : Fin 8192 → EReal} {σ : Fin 8192 → Fin 8192} (h : Falls s σ) (hs : Strict s σ) (k k' : Fin 8192)
    (hk : s (σ (at_ 30 (by omega))) ≤ s k) (e : s k = s k') : k = k' := by
  obtain ⟨j, rfl⟩ := h.bij.2 k
  obtain ⟨j', rfl⟩ := h.bij.2 k'
  have hj := (Strict.reach h hs j).1 hk
  have hj' := (Strict.reach h hs j').1 (e ▸ hk)
  rcases lt_trichotomy j j' with hl | rfl | hl
  · exact absurd e (Strict.lt h hs hl hj).ne'
  · rfl
  · exact absurd e (Strict.lt h hs hl hj').ne

/-- The row with its own column at −∞. -/
def other (s : Fin 8192 → EReal) (i : Fin 8192) : Fin 8192 → EReal := fun k => if k = i then ⊥ else s k

/-- Column `k` is among the listing's first thirty. -/
def Picked (τ : Fin 8192 → Fin 8192) (k : Fin 8192) : Prop := ∃ j : Fin 8192, j.val < 30 ∧ τ j = k

theorem picked_card (τ : Fin 8192 → Fin 8192) (hτ : Function.Bijective τ) : #(({j : Fin 8192 | j.val < 30} : Finset _).image τ) = 30 := by
  rw [card_image_of_injective _ hτ.1, card_lt _ (by omega)]

theorem mem_picked (τ : Fin 8192 → Fin 8192) (k : Fin 8192) : k ∈ (({j : Fin 8192 | j.val < 30} : Finset _).image τ) ↔ Picked τ k := by
  simp only [mem_image, mem_filter, mem_univ, true_and, Picked]

/-- What is not picked is no larger than what is. -/
theorem Falls.le_picked {s : Fin 8192 → EReal} {τ : Fin 8192 → Fin 8192} (h : Falls s τ) {k k' : Fin 8192} (hk : Picked τ k)
    (hk' : ¬ Picked τ k') : s k' ≤ s k := by
  obtain ⟨j, hj, rfl⟩ := hk
  obtain ⟨j', rfl⟩ := h.bij.2 k'
  refine h.le (Fin.le_def.mpr ?_)
  by_contra hlt
  exact hk' ⟨j', by omega, rfl⟩

/-- The row's own column is not picked. -/
theorem not_picked_self {s : Fin 8192 → EReal} {i : Fin 8192} {τ : Fin 8192 → Fin 8192} (hfin : ∀ k, ⊥ < s k) (h : Falls (other s i) τ) :
    ¬ Picked τ i := by
  intro hi
  have hall : (univ : Finset (Fin 8192)) ⊆ (({j : Fin 8192 | j.val < 30} : Finset _).image τ) := by
    intro k _
    rw [mem_picked]
    by_contra hk
    have := h.le_picked hi hk
    have hne : k ≠ i := fun e => hk (e ▸ hi)
    unfold other at this
    rw [if_pos rfl, if_neg hne] at this
    exact absurd this (hfin k).not_ge
  have := Finset.card_le_card hall
  rw [picked_card τ h.bij, card_univ, Fintype.card_fin] at this
  omega

/-- In a row where at most 30 columns are positive, every positive one is picked. -/
theorem picked_of_pos {s : Fin 8192 → EReal} {i : Fin 8192} {τ : Fin 8192 → Fin 8192} (hfin : ∀ k, ⊥ < s k) (h : Falls (other s i) τ)
    (hcard : ∀ x, 0 < x → #{k | x ≤ s k} ≤ 30) {k : Fin 8192} (hki : k ≠ i) (hk : 0 < s k) : Picked τ k := by
  by_contra hn
  have hsub : insert k (({j : Fin 8192 | j.val < 30} : Finset _).image τ) ⊆ ({k' | s k ≤ s k'} : Finset _) := by
    intro k' hk'
    rcases mem_insert.mp hk' with rfl | hk'
    · exact mem_filter.mpr ⟨mem_univ _, le_rfl⟩
    · have hp := (mem_picked τ k').1 hk'
      have := h.le_picked hp hn
      have hne : k' ≠ i := fun e => not_picked_self hfin h (e ▸ hp)
      unfold other at this
      rw [if_neg hki, if_neg hne] at this
      exact mem_filter.mpr ⟨mem_univ _, this⟩
  have h1 := Finset.card_le_card hsub
  rw [card_insert_of_notMem (fun hm => hn ((mem_picked τ k).1 hm)), picked_card τ h.bij] at h1
  have := hcard (s k) hk
  omega

/-- In a row whose 31 largest are distinct, its own among them, the picked columns are the others among the 31. -/
theorem picked_iff {s : Fin 8192 → EReal} {i : Fin 8192} {σ τ : Fin 8192 → Fin 8192} (hfin : ∀ k, ⊥ < s k) (hσ : Falls s σ)
    (hs : Strict s σ) (h : Falls (other s i) τ) (hown : s (σ (at_ 30 (by omega))) ≤ s i) {k : Fin 8192} (hki : k ≠ i) :
    Picked τ k ↔ s (σ (at_ 30 (by omega))) ≤ s k := by
  have h31 := Strict.card hσ hs
  have hi : ∀ k', Picked τ k' → k' ≠ i := fun k' hp e => not_picked_self hfin h (e ▸ hp)
  constructor
  · intro hp
    by_contra hlt
    rw [not_le] at hlt
    have hsub : insert k (({k' | s (σ (at_ 30 (by omega))) ≤ s k'} : Finset (Fin 8192)).erase i) ⊆ (({j : Fin 8192 | j.val < 30} : Finset _).image τ) := by
      intro k' hk'
      rw [mem_picked]
      rcases mem_insert.mp hk' with rfl | hk'
      · exact hp
      · obtain ⟨hne, hm⟩ := mem_erase.mp hk'
        by_contra hn
        have := h.le_picked hp hn
        unfold other at this
        rw [if_neg hki, if_neg hne] at this
        exact absurd ((mem_filter.mp hm).2.trans this) hlt.not_ge
    have h1 := Finset.card_le_card hsub
    rw [picked_card τ h.bij, card_insert_of_notMem (a := k) (fun hm => absurd (mem_filter.mp (mem_erase.mp hm).2).2 hlt.not_ge)] at h1
    have := pred_card_le_card_erase (s := ({k' | s (σ (at_ 30 (by omega))) ≤ s k'} : Finset (Fin 8192))) (a := i)
    omega
  · intro hk
    by_contra hn
    have hsub : insert i (insert k (({j : Fin 8192 | j.val < 30} : Finset _).image τ)) ⊆ ({k' | s (σ (at_ 30 (by omega))) ≤ s k'} : Finset _) := by
      intro k' hk'
      refine mem_filter.mpr ⟨mem_univ _, ?_⟩
      rcases mem_insert.mp hk' with rfl | hk'
      · exact hown
      rcases mem_insert.mp hk' with rfl | hk'
      · exact hk
      · have hp := (mem_picked τ k').1 hk'
        have := h.le_picked hp hn
        unfold other at this
        rw [if_neg hki, if_neg (hi k' hp)] at this
        exact hk.trans this
    have h1 := Finset.card_le_card hsub
    rw [card_insert_of_notMem, card_insert_of_notMem (fun hm => hn ((mem_picked τ k).1 hm)), picked_card τ h.bij] at h1
    · omega
    · intro hm
      rcases mem_insert.mp hm with e | hm
      · exact hki e.symm
      · exact hi i ((mem_picked τ i).1 hm) rfl

/-- Where the row is covered: at most 30 columns positive, or the 31 largest distinct, the own column among them, no more
    than three of them in a lane. -/
def Good (s : Fin 8192 → EReal) (σ : Fin 8192 → Fin 8192) (i : Fin 8192) : Prop :=
  s (σ (at_ 30 (by omega))) ≤ 0 ∨
    (Strict s σ ∧ (∀ l, cnt (lane s l) (s (σ (at_ 30 (by omega)))) 32 ≤ 3) ∧ s (σ (at_ 30 (by omega))) ≤ s i)

/-- A covered row, beside the own column: the kernel's thresholded value is the reference's picked one. -/
theorem row_eq {s : Fin 8192 → EReal} {i : Fin 8192} {σ τ : Fin 8192 → Fin 8192} (hfin : ∀ k, ⊥ < s k) (hσ : Falls s σ)
    (h : Falls (other s i) τ) (hg : Good s σ i) {e : EReal} (he : 0 < e) {k : Fin 8192} (hki : k ≠ i) (hk : s k ≤ 0 ∨ e ≤ s k)
    [Decidable (Picked τ k)] :
    (if max (left s) e ≤ s k then s k else 0) = max (s k) 0 * (if Picked τ k then 1 else 0) := by
  rcases hk with hk | hk
  · rw [if_neg (fun h' => absurd ((le_max_right _ _).trans (h'.trans hk)) he.not_ge), max_eq_right hk, zero_mul]
  have hpos : 0 < s k := he.trans_le hk
  have key : left s ≤ s k ↔ Picked τ k := by
    have hle : left s ≤ s (σ (at_ 30 (by omega))) := left_le s _ fun x hx => hσ.card_le (at_ 30 (by omega)) x hx
    by_cases h0 : s (σ (at_ 30 (by omega))) ≤ 0
    · exact iff_of_true (hle.trans (h0.trans hpos.le))
        (picked_of_pos hfin h (fun x hx => hσ.card_le (at_ 30 (by omega)) x (h0.trans_lt hx)) hki hpos)
    · obtain ⟨hs, hl, hown⟩ := hg.resolve_left h0
      rw [picked_iff hfin hσ hs h hown hki]
      have hge := le_left s _ (hfin _) (Strict.card hσ hs).ge hl (Strict.inj hσ hs)
      rw [le_antisymm hle hge]
  rw [max_eq_left hpos.le]
  by_cases hp : Picked τ k
  · rw [if_pos (max_le (key.2 hp) hk), if_pos hp, mul_one]
  · rw [if_neg (fun h' => hp (key.1 ((le_max_left _ _).trans h'))), if_neg hp, mul_zero]

end Cert.Row

end

end
-- ==== Proof.Top.lean ====
/- The host's top-k of the rows of a square array: its values and positions are the row's first places in falling order. -/
module

public import proofs.«01_k».proof.Proof.RowEq
public import Idealize.ShloMosaic.Lib.SortFacts
public import Idealize.ShloMosaic.Lib.Pointwise

@[expose] public section

set_option maxRecDepth 16384

noncomputable section

namespace Cert.Top

open Idealize.ShloMosaic

/-- The order in which the host's stable sort lists a row's columns. -/
def order (x : Fin 8192 → EReal) : Fin 8192 → Fin 8192 :=
  sortedFrom fun k k' => (FloatOps.cmpfTotal (F := Ideal) (φ := .f32) .gt (x k) (x k')) == 1#1

theorem before_iff (a b : EReal) : ((FloatOps.cmpfTotal (F := Ideal) (φ := .f32) .gt a b) == 1#1) = decide (b < a) := by
  show (BitVec.ofBool (decide (b < a)) == 1#1) = _
  by_cases h : b < a <;> simp [h]

/-- A stable sort by falling value leaves no pair the wrong way round. -/
theorem no_rise {n : ℕ} (x : Fin n → EReal) (i j : Fin n) (hij : i < j) :
    x (sortedFrom (fun k k' => (FloatOps.cmpfTotal (F := Ideal) (φ := .f32) .gt (x k) (x k')) == 1#1) j) ≤
      x (sortedFrom (fun k k' => (FloatOps.cmpfTotal (F := Ideal) (φ := .f32) .gt (x k) (x k')) == 1#1) i) := by
  have h := sortedFrom_noInversion (fun k k' => (FloatOps.cmpfTotal (F := Ideal) (φ := .f32) .gt (x k) (x k')) == 1#1)
    (fun k k' => (FloatOps.cmpfTotal (F := Ideal) (φ := .f32) .gt (x k) (x k')) == 1#1)
    (fun a b hab => by
      simp only [before_iff, decide_eq_true_eq, decide_eq_false_iff_not] at hab ⊢
      exact hab.le.not_gt)
    (fun _ _ h => h)
    (fun a b c hab hbc => by
      simp only [before_iff, decide_eq_false_iff_not, not_lt] at hab hbc ⊢
      exact hab.trans hbc) i j hij
  rw [before_iff] at h
  exact not_lt.mp (of_decide_eq_false h)

/-- The listing goes by falling value, every column once. -/
theorem falls (x : Fin 8192 → EReal) : Cert.Row.Falls x (order x) where
  bij := ⟨sortedFrom_injective _, sortedFrom_surjective _⟩
  anti i j hij := by
    unfold order
    exact no_rise x i j hij

/-- A square array's columns of row `i`. -/
abbrev row (x : FVec Ideal ⟨2, ![8192, 8192]⟩ .f32) (i : Fin 8192) : Fin 8192 → EReal := fun k => x (ix2 i k)

theorem along_ix2 (hd : 1 < (⟨2, ![8192, 8192]⟩ : Shape).rank) (i j : Fin 8192) (k : Fin ((⟨2, ![8192, 8192]⟩ : Shape).size ⟨1, hd⟩)) :
    Shape.Idx.along (s := ⟨2, ![8192, 8192]⟩) (ix2 i j) ⟨1, hd⟩ k = ix2 i k := by
  funext a
  match a with
  | ⟨0, _⟩ => rfl
  | ⟨1, _⟩ => rfl

theorem order_eq (hd : 1 < (⟨2, ![8192, 8192]⟩ : Shape).rank) (x : FVec Ideal ⟨2, ![8192, 8192]⟩ .f32) (i j : Fin 8192) :
    sortedFrom (n := 8192) (fun k k' => (FloatOps.cmpfTotal (F := Ideal) (φ := .f32) .gt
      (x (Shape.Idx.along (s := ⟨2, ![8192, 8192]⟩) (ix2 i j) ⟨1, hd⟩ k)) (x (Shape.Idx.along (s := ⟨2, ![8192, 8192]⟩) (ix2 i j) ⟨1, hd⟩ k'))) == 1#1) =
      order (row x i) := by
  unfold order
  refine congrArg sortedFrom ?_
  funext k k'
  exact congrArg₂ (fun u v => (FloatOps.cmpfTotal (F := Ideal) (φ := .f32) .gt u v == 1#1))
    (congrArg x (along_ix2 hd i j k)) (congrArg x (along_ix2 hd i j k'))

theorem sort2_apply {β : Type} (x : FVec Ideal ⟨2, ![8192, 8192]⟩ .f32) (y : (⟨2, ![8192, 8192]⟩ : Shape).Idx → β) (i j : Fin 8192) :
    (Host.sort2 ⟨2, ![8192, 8192]⟩ 1 (fun l r => FloatOps.cmpfTotal (F := Ideal) (φ := .f32) .gt l.1 r.1) x y).1 (ix2 i j) = x (ix2 i (order (row x i) j)) ∧
    (Host.sort2 ⟨2, ![8192, 8192]⟩ 1 (fun l r => FloatOps.cmpfTotal (F := Ideal) (φ := .f32) .gt l.1 r.1) x y).2 (ix2 i j) = y (ix2 i (order (row x i) j)) := by
  have hd : 1 < (⟨2, ![8192, 8192]⟩ : Shape).rank := by decide
  have e := order_eq hd x i j
  unfold Host.sort2
  rw [dif_pos hd]
  constructor
  · refine (congrArg x (along_ix2 hd i j _)).trans ?_
    exact congrArg (fun f : Fin 8192 → Fin 8192 => x (ix2 i (f j))) e
  · refine (congrArg y (along_ix2 hd i j _)).trans ?_
    exact congrArg (fun f : Fin 8192 → Fin 8192 => y (ix2 i (f j))) e

theorem slice_apply {α : Type} {K : ℕ} (hK : K ≤ 8192) (x : (⟨2, ![8192, 8192]⟩ : Shape).Idx → α) (h) (i : Fin 8192) (j : Fin K) :
    extractStridedSlice ⟨2, ![8192, K]⟩ (fun _ => 0) x h (ix2 i j) = x (ix2 i ⟨j.val, j.isLt.trans_le hK⟩) := by
  unfold extractStridedSlice
  refine congrArg x ?_
  funext a
  match a with
  | ⟨0, _⟩ => exact Fin.ext (Nat.zero_add _)
  | ⟨1, _⟩ => exact Fin.ext (Nat.zero_add _)

/-- The values of a row's top-k. -/
theorem topK_values {K : ℕ} (hK : K ≤ 8192) (x : FVec Ideal ⟨2, ![8192, 8192]⟩ .f32) (h) (i : Fin 8192) (j : Fin K) :
    (Host.topK ⟨2, ![8192, K]⟩ 1 (FloatOps.cmpfTotal .gt) x h).1 (ix2 i j) =
      x (ix2 i (order (row x i) ⟨j.val, j.isLt.trans_le hK⟩)) := by
  unfold Host.topK
  dsimp only
  refine (slice_apply hK _ h i j).trans ?_
  exact (sort2_apply x _ i ⟨j.val, j.isLt.trans_le hK⟩).1

/-- The positions of a row's top-k. -/
theorem topK_indices {K : ℕ} (hK : K ≤ 8192) (x : FVec Ideal ⟨2, ![8192, 8192]⟩ .f32) (h) (i : Fin 8192) (j : Fin K) :
    (Host.topK ⟨2, ![8192, K]⟩ 1 (FloatOps.cmpfTotal .gt) x h).2 (ix2 i j) =
      BitVec.ofNat 32 (order (row x i) ⟨j.val, j.isLt.trans_le hK⟩).val := by
  unfold Host.topK
  dsimp only
  refine (slice_apply hK _ h i j).trans ?_
  refine (sort2_apply x _ i ⟨j.val, j.isLt.trans_le hK⟩).2.trans ?_
  rw [dif_pos (by decide)]
  rfl

end Cert.Top

end

end
-- ==== Proof.RefValue.lean ====
/- What the reference program computes, read at one element of its result. -/
module

public import proofs.«01_k».proof.Proof.Gen.ReferenceIdeal.Read
public import proofs.«01_k».proof.Proof.Rows
public import proofs.«01_k».proof.Proof.Top
public import Idealize.ShloMosaic.Lib.Pointwise
public import Idealize.ShloMosaic.Lib.ScatterToDense.RefScatter

@[expose] public section

set_option maxRecDepth 16384

noncomputable section

namespace Cert.RefValue

open Cert.Rows Cert.ReferenceIdeal Cert.ReferenceIdeal.Gen Cert.ReferenceIdeal.Read Idealize.ShloMosaic Idealize.ShloMosaic.TcCoe

/-- The normalised argument. -/
theorem emb_apply (x : Arg) (i : Fin 8192) (d : Fin 128) : val_main_v4 (F := Ideal) x (ix2 i d) = Cert.Spec.emb (rowOf x i) d := by
  pointwise [val_main_v4, val_main_v3, val_main_v2, val_main_v1, val_main_cst, val_main_v0, val_main_call0_v2, val_main_call0_v1, val_main_call0_cst, val_main_call0_v0]
  rw [Cert.Consts.floor]
  rfl

/-- The cosines. -/
theorem cos_apply (x : Arg) (i k : Fin 8192) : val_main_v6 (F := Ideal) x (ix2 i k) = Cert.Spec.cosv (rowOf x i) (rowOf x k) := by
  unfold val_main_v6 val_main_v5
  pointwise
  exact Finset.sum_congr rfl fun d _ => by rw [emb_apply, emb_apply]

/-- The similarities. -/
theorem sim_apply (x : Arg) (i k : Fin 8192) : val_main_v8 (F := Ideal) x (ix2 i k) = simRow x i k := by
  unfold val_main_v8 val_main_v7 val_main_cst_0
  pointwise
  rw [cos_apply, Cert.Consts.root, Cert.Spec.div_root]
  rfl

/-- The similarities with a row's own taken out. -/
theorem masked_apply (x : Arg) (i k : Fin 8192) : val_main_v14 (F := Ideal) x (ix2 i k) = Cert.Row.other (simRow x i) i k := by
  unfold val_main_v14
  pointwise [val_main_v13, val_main_v12, val_main_v11, val_main_v10, val_main_v9, val_main_c, val_main_call1_v1, val_main_call1_v0, val_main_cst_1]
  rw [show IntOp.addi (BitVec.ofNat 32 i.val) 0#32 = BitVec.ofNat 32 i.val from BitVec.add_zero _, WordCmp.cmpi_eq_ofNat (by omega) (by omega),
    WordCmp.select_decide, sim_apply]
  unfold Cert.Row.other
  by_cases h : k = i
  · rw [if_pos (congrArg Fin.val h.symm), if_pos h]
    exact Cert.Consts.ninf
  · rw [if_neg (fun e => h (Fin.ext e.symm)), if_neg h]

/-- A row's columns in the order of the reference's top-k. -/
abbrev listing (x : Arg) (i : Fin 8192) : Fin 8192 → Fin 8192 := Cert.Top.order (Cert.Row.other (simRow x i) i)

theorem chosen_apply (x : Arg) (i : Fin 8192) (j : Fin 30) : val_main_indices (F := Ideal) x (ix2 i j) =
    BitVec.ofNat 32 (listing x i ⟨j.val, j.isLt.trans (by decide)⟩).val := by
  unfold val_main_indices
  rw [Cert.Top.topK_indices (by decide)]
  refine congrArg (fun r : Fin 8192 → EReal => BitVec.ofNat 32 (Cert.Top.order r ⟨j.val, j.isLt.trans (by decide)⟩).val) ?_
  funext k
  exact masked_apply x i k

/-- The chosen columns, after the wrap of negative words. -/
theorem index_apply (x : Arg) (i : Fin 8192) (j : Fin 30) : val_main_v27 (F := Ideal) x (ix2 i j) =
    BitVec.ofNat 32 (listing x i ⟨j.val, j.isLt.trans (by decide)⟩).val := by
  unfold val_main_v27
  pointwise [val_main_v24, val_main_v26, val_main_v25, val_main_v23, val_main_c_5, val_main_c_6]
  rw [chosen_apply]
  refine Routing.wrap_of_lt _ _ ?_
  rw [BitVec.toNat_ofNat]
  have := (listing x i ⟨j.val, j.isLt.trans (by decide)⟩).isLt
  omega

theorem place_apply (x : Arg) (i : Fin 8192) (j : Fin 30) : val_main_v31 (F := Ideal) x (ix3 i j (1 : Fin 2)) =
   val_main_v27 (F := Ideal) x (ix2 i j) := by
  unfold val_main_v31 val_main_v30
  pointwise

theorem token_apply (x : Arg) (i : Fin 8192) (j : Fin 30) : val_main_v31 (F := Ideal) x (ix3 i j (0 : Fin 2)) =
    BitVec.ofNat 32 i.val := by
  unfold val_main_v31 val_main_v29
  pointwise [val_main_v28, val_main_v22, val_main_v21, val_main_v20, val_main_v19, val_main_v18, val_main_v16, val_main_v15, val_main_c_3, val_main_c_4]
  refine Routing.wrap_of_lt _ _ ?_
  rw [BitVec.toNat_ofNat]
  omega

/-- Ones set at the words of a list: a column holds one exactly when the list names it. -/
theorem GS_ones (word : ℕ → BitVec 32) (col n : ℕ) [∀ n, Decidable (∃ j, j < n ∧ col = (word j).toNat)] :
    ScatterToDense.GS word (fun _ => (1 : EReal)) 0 col n = if ∃ j, j < n ∧ col = (word j).toNat then 1 else 0 := by
  induction n with
  | zero => rw [ScatterToDense.GS_zero, if_neg (by rintro ⟨j, hj, _⟩; omega)]
  | succ n ih =>
    rw [ScatterToDense.GS_succ]
    by_cases h : col = (word n).toNat
    · rw [if_pos h, if_pos ⟨n, by omega, h⟩]
    · rw [if_neg h, ih]
      refine if_congr ⟨fun ⟨j, hj, e⟩ => ⟨j, by omega, e⟩, fun ⟨j, hj, e⟩ => ⟨j, ?_, e⟩⟩ rfl rfl
      rcases Nat.lt_succ_iff_lt_or_eq.mp hj with hj | hj
      · exact hj
      · exact absurd (hj ▸ e) h

/-- The reference's mask: one at a row's chosen columns. -/
theorem ones_apply (x : Arg) (i k : Fin 8192) [Decidable (Cert.Row.Picked (listing x i) k)] :
    val_main_v33 (F := Ideal) x (ix2 i k) = if Cert.Row.Picked (listing x i) k then 1 else 0 := by
  classical
  unfold val_main_v33
  have h := ScatterToDense.scatter_eq_GS (T := 8192) (C := 8192) (K := 30) scatter_S8192x8192_S8192x30x2_S8192x30_n_01_01_2 rfl rfl rfl (by decide) (by decide)
    (val_main_v17 (F := Ideal)) (val_main_v31 (F := Ideal) x) (val_main_v32 (F := Ideal))
    (fun i n => if h : n < 30 then BitVec.ofNat 32 (listing x i ⟨n, h.trans (by decide)⟩).val else 0) (fun _ _ => 1)
    (fun i j => (token_apply x i j)) (fun i j => by
      rw [dif_pos j.isLt]
      exact (place_apply x i j).trans (index_apply x i j))
    (fun i j => by
      show Ideal.ofBits .f32 0x3F800000#32 = 1
      exact Cert.Consts.one) i k
  refine Eq.trans h ?_
  rw [show val_main_v17 (F := Ideal) (ValueIdx.ix2 i k) = 0 from Cert.Consts.zero, GS_ones]
  refine if_congr ⟨fun ⟨j, hj, e⟩ => ⟨⟨j, by omega⟩, hj, ?_⟩, fun ⟨j, hj, e⟩ => ⟨j.val, hj, ?_⟩⟩ rfl rfl
  · rw [dif_pos hj, BitVec.toNat_ofNat] at e
    refine Fin.ext ?_
    have := (listing x i ⟨j, by omega⟩).isLt
    omega
  · rw [dif_pos hj, BitVec.toNat_ofNat, ← e]
    exact (Nat.mod_eq_of_lt ((listing x i j).isLt.trans (by decide))).symm

/-- The reference's result at an element. -/
theorem value_apply (x : Arg) (i k : Fin 8192) [Decidable (Cert.Row.Picked (listing x i) k)] :
    val_main_v42 (F := Ideal) x (ix2 i k) = max (simRow x i k) 0 * (if Cert.Row.Picked (listing x i) k then 1 else 0) + (if i = k then 1 else 0) := by
  unfold val_main_v42 val_main_v35 val_main_v34
  pointwise [val_main_v41, val_main_v40, val_main_v39, val_main_v38, val_main_v37, val_main_v36, val_main_c_8, val_main_call2_v0, val_main_call2_cst]
  rw [show IntOp.addi (BitVec.ofNat 32 i.val) 0#32 = BitVec.ofNat 32 i.val from BitVec.add_zero _, WordCmp.cmpi_eq_ofNat (by omega) (by omega),
    sim_apply, ones_apply]
  refine congrArg (fun e : EReal => (max (simRow x i k) 0 * (if Cert.Row.Picked (listing x i) k then 1 else 0)) + e) ?_
  by_cases h : i = k
  · rw [if_pos h, decide_eq_true (congrArg Fin.val h)]
    show ((1 : ℕ) : EReal) = 1
    exact Nat.cast_one
  · rw [if_neg h, decide_eq_false (fun e => h (Fin.ext e))]
    show ((0 : ℕ) : EReal) = 0
    exact Nat.cast_zero

end Cert.RefValue

end

end
-- ==== Proof.Mask.lean ====
/- The mask, read at an element: where it is set, the element is a diagonal one, or its row's listing is a good one and its
   own similarity keeps away from the least one the kernel stores. -/
module

public import proofs.«01_k».proof.Proof.Gen.On_covered
public import proofs.«01_k».proof.Proof.Rows
public import proofs.«01_k».proof.Proof.Top
public import Idealize.ShloMosaic.Lib.Pointwise
public import Idealize.ShloMosaic.Lib.ReduceAll
public import Idealize.ShloMosaic.Lib.WordCmp

@[expose] public section

set_option maxRecDepth 16384

noncomputable section

namespace Cert.Mask

open Cert.Rows Cert.On_covered Cert.On_covered.Gen Idealize.ShloMosaic

/-- A conjunction over all places is set only where every place is. -/
theorem fold_andi {n : ℕ} (f : Fin n → BitVec 1) (h : Finset.fold IntOp.andi (1#1) f Finset.univ = 1#1) (l : Fin n) : f l = 1#1 := by
  have key : ∀ s : Finset (Fin n), Finset.fold IntOp.andi (1#1) f s = 1#1 → ∀ l ∈ s, f l = 1#1 := by
    intro s
    induction s using Finset.induction_on with
    | empty => exact fun _ l hl => absurd hl (Finset.notMem_empty l)
    | insert a s ha ih =>
      intro hs l hl
      rw [Finset.fold_insert ha, IntOp.andi_eq_one] at hs
      rcases Finset.mem_insert.mp hl with e | hl
      · exact e ▸ hs.1
      · exact ih hs.2 l hl
  exact key _ h l (Finset.mem_univ l)

/-- The last part: off the diagonal, the row's bit and the element's own are set. -/
theorem part2 (v6 : FVec Ideal S8192x8192 .f32) (v31 : IVec S8192x1 1) (v33 : IVec S8192x8192 1) (v34 : FVec Ideal S8192x8192 .f32) (i k : Fin 8192)
    (h : (fn_part2 (F := Ideal) v6 v31 v33 v34).1 (ix2 i k) = 1#1) (hik : i ≠ k) :
    v31 (ix2 i 0) = 1#1 ∧ (v33 (ix2 i k) = 1#1 ∨ v34 (ix2 i k) ≤ v6 (ix2 i k)) := by
  pointwise [fn_part2] at h
  rw [show IntOp.addi (BitVec.ofNat 32 i.val) 0#32 = BitVec.ofNat 32 i.val from BitVec.add_zero _, IntOp.ori_eq_one,
    WordCmp.cmpi_eq_ofNat_eq_one_iff (by omega) (by omega), IntOp.andi_eq_one, IntOp.ori_eq_one, WordCmp.ofBool_decide_eq_one_iff] at h
  rcases h with h | h
  · exact h
  · exact absurd (Fin.ext h) hik

/-- The part before: the row's bit says that its listing is a good one. -/
theorem part1 (v4 : FVec Ideal S8192x128 .f32) (v6 : FVec Ideal S8192x8192 .f32) (v7 : FVec Ideal S8192x1 .f32) (v12 : IVec S8192x1 1)
    (v17 : FVec Ideal S8192x32x256 .f32) (i k : Fin 8192)
    (h : (fn_part1 (F := Ideal) v4 v6 v7 v12 v17).1 (ix2 i k) = 1#1) (hik : i ≠ k) :
    (v7 (ix2 i 0) ≤ 0 ∨ (v12 (ix2 i 0) = 1#1 ∧ (∀ l : Fin 256, ∑ c : Fin 32, v17 (ix3 i c l) ≤ ((3 : ℝ) : EReal)) ∧
      v7 (ix2 i 0) ≤ ∑ d : Fin 128, v4 (ix2 i d) * v4 (ix2 i d))) ∧
    (v6 (ix2 i k) ≤ 0 ∨ ((13292280 / 2 ^ 119 : ℝ) : EReal) ≤ v6 (ix2 i k)) := by
  unfold fn_part1 at h
  obtain ⟨h1, h2⟩ := part2 _ _ _ _ i k h hik
  clear h
  constructor
  · clear h2
    pointwise at h1
    rw [IntOp.ori_eq_one, IntOp.andi_eq_one, IntOp.andi_eq_one, WordCmp.ofBool_decide_eq_one_iff, WordCmp.ofBool_decide_eq_one_iff] at h1
    refine h1.imp_right fun h => ⟨h.1.1, fun l => ?_, h.2⟩
    have hl := fold_andi _ h.1.2 l
    rw [WordCmp.ofBool_decide_eq_one_iff, Cert.Consts.three] at hl
    exact hl
  · clear h1
    pointwise at h2
    rw [WordCmp.ofBool_decide_eq_one_iff, Cert.Consts.small] at h2
    exact h2

theorem norm_apply (x : Arg) (i : Fin 8192) : fn_norm (F := Ideal) x (ix2 i (0 : Fin 1)) = Ideal.sqrt (Cert.Spec.sq (rowOf x i)) := by
  pointwise [fn_norm]
  rfl

theorem where_apply (b : IVec S8192x32x256 1) (u v : FVec Ideal S_ .f32) (i : Fin 8192) (c : Fin 32) (l : Fin 256) :
    fn_where (F := Ideal) b u v (ix3 i c l) = Scalar.select (b (ix3 i c l)) (u ix0) (v ix0) := by
  pointwise [fn_where]

/-- Row `i`'s cosines. -/
abbrev cosRow (x : Arg) (i : Fin 8192) : Fin 8192 → EReal := fun k => Cert.Spec.cosv (rowOf x i) (rowOf x k)

/-- A row's columns in the order of the mask's top-k. -/
abbrev listing (x : Arg) (i : Fin 8192) : Fin 8192 → Fin 8192 := Cert.Top.order (cosRow x i)

/-- The listing goes by falling similarity. -/
theorem listing_falls (x : Arg) (i : Fin 8192) : Cert.Row.Falls (simRow x i) (listing x i) where
  bij := (Cert.Top.falls (cosRow x i)).bij
  anti a b hab := (Cert.Spec.sim_le _ _ _ _).mpr ((Cert.Top.falls (cosRow x i)).anti a b hab)

/-- One for a place set and nothing else, as an extended real: what a lane's places sum to is their number. -/
theorem sum_ones (p : Fin 32 → Prop) [DecidablePred p] (h : ∑ c : Fin 32, (if p c then (1 : EReal) else 0) ≤ ((3 : ℝ) : EReal)) :
    ∑ c : Fin 32, (if p c then 1 else 0) ≤ 3 := by
  have e : ∑ c : Fin 32, (if p c then (1 : EReal) else 0) = ((∑ c : Fin 32, (if p c then 1 else 0) : ℕ) : EReal) := by
    rw [Nat.cast_sum]
    exact Finset.sum_congr rfl fun c _ => by split <;> simp
  rw [e, ← EReal.coe_natCast, EReal.coe_le_coe_iff] at h
  exact_mod_cast h

/-- Where the mask is set off the diagonal, the row's listing is a good one and the element keeps away from the least one stored. -/
theorem covered (x : Arg) (i k : Fin 8192) (h : (fn (F := Ideal) x).1 (ix2 i k) = 1#1) (hik : i ≠ k) :
    Cert.Row.Good (simRow x i) (listing x i) i ∧ (simRow x i k ≤ 0 ∨ ((10633824 / 2 ^ 123 : ℝ) : EReal) ≤ simRow x i k) := by
  unfold fn at h
  extract_lets v0 cst v1 v2 v3 v4 v5 v6 vals inds v7 v8 v9 v10 c v11 v12 v13 v14 v15 cst0 cst1 v16 v17 at h
  have e4 : ∀ i d, v4 (ix2 i d) = Cert.Spec.emb (rowOf x i) d := by
    intro i d
    pointwise [v4, v3, v2, v1, cst]
    rw [show v0 (ix2 i 0) = _ from norm_apply x i, Cert.Consts.floor]
    rfl
  have e6 : ∀ i k, v6 (ix2 i k) = cosRow x i k := by
    intro i k
    pointwise [v6, v5]
    exact Finset.sum_congr rfl fun d _ => by rw [e4, e4]
  have ev : ∀ i j, vals (ix2 i j) = cosRow x i (listing x i ⟨j.val, j.isLt.trans (by decide)⟩) := by
    intro i j
    show (Host.topK (s := ⟨2, ![8192, 8192]⟩) ⟨2, ![8192, 32]⟩ 1 (FloatOps.cmpfTotal .gt) v6 _).1 (ix2 i j) = _
    rw [Cert.Top.topK_values (by decide), e6]
    refine congrArg (fun r : Fin 8192 → EReal => cosRow x i (Cert.Top.order r ⟨j.val, j.isLt.trans (by decide)⟩)) ?_
    funext k
    exact e6 i k
  have e7 : ∀ i, v7 (ix2 i 0) = cosRow x i (listing x i ⟨30, by decide⟩) := by
    intro i
    pointwise [v7]
    exact ev i 30
  have e12 : ∀ i, v12 (ix2 i 0) = 1#1 → ∀ p : Fin 31,
      cosRow x i (listing x i ⟨p.val + 1, by omega⟩) < cosRow x i (listing x i ⟨p.val, by omega⟩) := by
    intro i h p
    pointwise [v12, v11, v10] at h
    have hp : v9 (ix2 i p) < v8 (ix2 i p) := (WordCmp.ofBool_decide_eq_one_iff _).mp (fold_andi _ h p)
    have h8 : v8 (ix2 i p) = vals (ix2 i ⟨p.val, by omega⟩) := by
      pointwise [v8]
    have h9 : v9 (ix2 i p) = vals (ix2 i ⟨p.val + 1, by omega⟩) := by
      pointwise [v9]
      exact congrArg (fun n : Fin 32 => vals (ix2 i n)) (Fin.ext (Nat.add_comm 1 p.val))
    rw [h8, h9, ev, ev] at hp
    exact hp
  have e17 : ∀ i c l, v17 (ix3 i c l) = if cosRow x i (listing x i ⟨30, by decide⟩) ≤ cosRow x i (Cert.Row.col c.val c.isLt l) then 1 else 0 := by
    intro i c l
    show v16 (ix3 i c l) = _
    refine (where_apply v15 cst0 cst1 i c l).trans ?_
    pointwise [v15, v14, v13]
    have hc : (⟨c.val * 256 + l.val, by omega⟩ : Fin 8192) = Cert.Row.col c.val c.isLt l := Fin.ext (by
      show c.val * 256 + l.val = 256 * c.val + l.val
      omega)
    rw [e7, e6, hc]
    exact if_congr Iff.rfl Cert.Consts.one Cert.Consts.zero
  obtain ⟨h1, h2⟩ := part1 v4 v6 v7 v12 v17 i k h hik
  rw [e6] at h2
  rw [e7] at h1
  refine ⟨?_, h2.imp (Cert.Spec.sim_nonpos _ _).mpr (Cert.Spec.tiny_le _ _)⟩
  refine h1.imp (Cert.Spec.sim_nonpos _ _).mpr ?_
  rintro ⟨a, b, d⟩
  refine ⟨fun p hp => ?_, fun l => ?_, ?_⟩
  · have := e12 i a ⟨p, hp⟩
    exact lt_of_not_ge fun hge => this.not_ge ((Cert.Spec.sim_le _ _ _ _).mp hge)
  · rw [Cert.Row.cnt_lane]
    have hb := b l
    simp only [e17] at hb
    have hs := sum_ones _ hb
    refine le_trans (le_of_eq (Finset.sum_congr rfl fun c _ => ?_)) hs
    exact if_congr (Cert.Spec.sim_le _ _ _ _) rfl rfl
  · simp only [e4] at d
    exact (Cert.Spec.sim_le _ _ _ _).mpr d

end Cert.Mask

end

end
-- ==== Proof.KI.Unit.lean ====
/- What the first kernel leaves: every row of the argument divided by its length. -/
module

public import proofs.«01_k».proof.Proof.KI.Norm
public import proofs.«01_k».proof.Proof.Consts
public import proofs.«01_k».proof.Proof.Rows
public import Idealize.ShloMosaic.Lib.Pointwise
public import Idealize.ShloMosaic.Lib.Pipeline.ValueKit

@[expose] public section

set_option maxRecDepth 16384

noncomputable section

namespace Cert.KernelIdeal.Cells

open Cert.KernelIdeal Cert.KernelIdeal.Gen Cert.KernelIdeal.Hand Idealize.ShloMosaic Idealize.ShloMosaic.TcCoe

/-- The rows of unit length. -/
def embs (x : Cert.Rows.Arg) : Cert.Rows.Arg := fun y => Cert.Spec.emb (Cert.Rows.rowOf x (y 0)) (y 1)

/-- The kernel's product with the reciprocal root is the quotient by the length. -/
theorem pay_apply (x : Cert.Rows.Arg) (i : Fin 8192) (d : Fin 128) : k0_pay1 (F := Ideal) x (ix2 i d) = embs x (ix2 i d) := by
  pointwise [k0_pay1]
  rw [Cert.Consts.named_eps2]
  exact Cert.Spec.rsqrt_eq (x (ix2 i d)) (Cert.Spec.sq (Cert.Rows.rowOf x i)) (Cert.Spec.sq_nonneg _)

/-- The block the first kernel leaves. -/
theorem out_eq (x : Cert.Rows.Arg) : out0_1 (F := Ideal) x = embs x := by
  unfold out0_1
  rw [View.ld_unit_zero (by decide), View.canon_unit_zero (by decide)]
  funext y
  obtain ⟨i, d, rfl⟩ : ∃ (i : Fin 8192) (d : Fin 128), y = ix2 i d := ⟨y 0, y 1, (funext fun a => by match a with | 0 => rfl | 1 => rfl)⟩
  exact pay_apply x i d

variable (V : (c : Dev nD) → (b : Ref sig .tc) → Buf (Elt Ideal) ((c : Thread nD τ).loc b))

/-- The array the first kernel leaves: one block, the whole of it. -/
theorem arr0 (c : Dev nD) : (dat0 V c).arrAt 1 cfg0.N = embs (V c main_arg0) := by
  refine (dat0 V c).arrAt_eq_of_covers 1 _ (by decide +kernel) fun t hf y => ?_
  blk_simp
  rw [after0_1]
  have hi : iblk0 V c 0 t = V c main_arg0 := funext fun x => by
    blk_simp [iblk0]
    refine congrArg (V c main_arg0) (funext fun a => Fin.ext ?_)
    blk_simp
    have h : win0_0.index t a = 0 := by match a with | 0 => rfl | 1 => rfl
    rw [h, Nat.zero_mul, Nat.zero_add]
  rw [hi]
  refine (congrFun (out_eq (V c main_arg0)) y).trans (congrArg (embs (V c main_arg0)) (funext fun a => Fin.ext ?_))
  blk_simp
  have h : win0_1.index t a = 0 := by match a with | 0 => rfl | 1 => rfl
  rw [h, Nat.zero_mul, Nat.zero_add]

end Cert.KernelIdeal.Cells

end

end
-- ==== Proof.KI.Cells.lean ====
/- The block kernel's running cells, part by part: each part of its body takes a lane's three cells further by the chunks it handles. -/
module

public import proofs.«01_k».proof.Proof.Gen.KernelIdeal.Skeleton
public import proofs.«01_k».proof.Proof.Row
public import proofs.«01_k».proof.Proof.Rows

@[expose] public section

set_option maxRecDepth 16384

noncomputable section

namespace Cert.KernelIdeal.Cells

open Cert.KernelIdeal Cert.KernelIdeal.Gen Idealize.ShloMosaic Idealize.ShloMosaic.TcCoe

/-- A cell taken through a list of values. -/
def run (r : Cert.Row.Cell) (l : List EReal) : Cert.Row.Cell := l.foldl Cert.Row.ins r

theorem run_append (r : Cert.Row.Cell) (l l' : List EReal) : run r (l ++ l') = run (run r l) l' := List.foldl_append ..

/-- Taken through a lane's first `n` values from the fill, it is the lane's cell. -/
theorem cells_eq_run (a : ℕ → EReal) (n : ℕ) : Cert.Row.cells a n = run (⊥, ⊥, ⊥) ((List.range n).map a) := by
  induction n with
  | zero => rfl
  | succ n ih => rw [List.range_succ, List.map_append, run_append, ← ih]; rfl

abbrev Tile := FVec Ideal S256x256 .f32
abbrev Own := FVec Ideal S256x128 .f32
abbrev All := FVec Ideal S8192x128 .f32

/-- Three tiles at one place. -/
abbrev cell (p : S256x256.Idx) (a b c : Tile) : Cert.Row.Cell := (a p, b p, c p)

/-- A list of tiles at one place. -/
abbrev vals (p : S256x256.Idx) (l : List Tile) : List EReal := l.map fun t => t p

variable (v1 : Own) (v3 : All) (p : S256x256.Idx)

/-- Chunks 0 to 3. -/
theorem part1 : cell p (k1_pay19 v1 v3) (k1_pay21 v1 v3) (k1_pay22 v1 v3) =
    run (cell p k1_pay5 k1_pay5 k1_pay5) (vals p [k1_pay6 v1 v3, k1_pay10 v1 v3, k1_pay14 v1 v3, k1_pay18 v1 v3]) := rfl

/-- Chunks 4 to 9. -/
theorem part2 (v36 v38 v40 v42 v43 : Tile) :
    cell p (k1_pay47 v1 v3 v36 v42 v43) (k1_pay49 v1 v3 v36 v38 v42 v43)
      (maximumf (k1_pay45 v1 v3 v36 v38 v40 v42 v43) (k1_pay50 v1 v3 v36 v38 v42 v43)) =
    run (cell p v36 v38 v40) (vals p [k1_pay25 v42 v43, k1_pay29 v1 v3, k1_pay33 v1 v3, k1_pay37 v1 v3, k1_pay41 v1 v3, k1_pay46 v1 v3]) := rfl

/-- Chunks 10 to 14. -/
theorem part3 (v85 v90 v92 v93 : Tile) :
    cell p (k1_pay68 v1 v3 v90) (k1_pay70 v1 v3 v90 v92) (k1_pay71 v1 v3 v85 v90 v92 v93) =
    run (cell p v90 v92 (maximumf v85 v93)) (vals p [k1_pay51 v1 v3, k1_pay55 v1 v3, k1_pay59 v1 v3, k1_pay63 v1 v3, k1_pay67 v1 v3]) := rfl

/-- Chunks 15 to 20. -/
theorem part4 (v135 v137 v139 v141 : Tile) (e : Ideal .f32) :
    cell p (k1_pay95 v1 v3 v135 v141 e) (k1_pay97 v1 v3 v135 v137 v141 e)
      (maximumf (k1_pay93 v1 v3 v135 v137 v139 v141 e) (minimumf (k1_pay92 v1 v3 v135 v137 v141 e) (k1_pay96 v1 v3 v135 v141 e))) =
    run (cell p v135 v137 v139) (vals p [k1_pay73 v141 e, k1_pay77 v1 v3, k1_pay81 v1 v3, k1_pay85 v1 v3, k1_pay89 v1 v3, k1_pay94 v1 v3]) := rfl

/-- Chunks 21 to 25. -/
theorem part5 (v182 v184 v189 v190 v191 : Tile) :
    cell p (k1_pay115 v1 v3 v189) (k1_pay117 v1 v3 v189 v191) (k1_pay118 v1 v3 v182 v184 v189 v190 v191) =
    run (cell p v189 v191 (maximumf v184 (minimumf v182 v190))) (vals p [k1_pay98 v1 v3, k1_pay102 v1 v3, k1_pay106 v1 v3, k1_pay110 v1 v3, k1_pay114 v1 v3]) := rfl

/-- Chunks 26 to 31. -/
theorem part6 (v234 v236 v238 v240 : Tile) :
    cell p (k1_pay142 v1 v3 v234 v240) (k1_pay144 (k1_pay139 v1 v3 v234 v236 v240) (k1_pay143 v1 v3 v234 v240))
      (k1_pay145 (k1_pay139 v1 v3 v234 v236 v240) (k1_pay140 v1 v3 v234 v236 v238 v240) (k1_pay143 v1 v3 v234 v240)) =
    run (cell p v234 v236 v238) (vals p [k1_pay120 v240, k1_pay124 v1 v3, k1_pay128 v1 v3, k1_pay132 v1 v3, k1_pay136 v1 v3, k1_pay141 v1 v3]) := rfl

end Cert.KernelIdeal.Cells

end

end
-- ==== Proof.KI.Chunk.lean ====
/- One chunk's similarities in a block: a row's own 128 numbers against another row's, scaled. -/
module

public import proofs.«01_k».proof.Proof.KI.Cells
public import proofs.«01_k».proof.Proof.Consts

@[expose] public section

set_option maxRecDepth 16384

noncomputable section

namespace Cert.KernelIdeal.Cells

open Cert.KernelIdeal Cert.KernelIdeal.Gen Idealize.ShloMosaic Idealize.ShloMosaic.TcCoe

/-- Two rows' scaled product. -/
def prod (v1 : Own) (v3 : All) (i : Fin 256) (k : Fin 8192) : EReal := (∑ d : Fin 128, v1 (ix2 i d) * v3 (ix2 k d)) * Cert.Spec.scale

/-- A row's scaled products with all rows. -/
abbrev prods (v1 : Own) (v3 : All) (i : Fin 256) : Fin 8192 → EReal := fun k => prod v1 v3 i k

/-- A chunk's tile of scaled products. -/
def tile (v1 : Own) (v3 : All) (off : ℕ) (h : S8192x128.Slices ![off, 0] S256x128) : Tile :=
  mulf (matmul dot_S256x128_S256x128_S256x256_1_1_0_0_n_n none v1 (extractStridedSlice S256x128 ![off, 0] v3 h) (constant S256x256 .f32 0x00000000#32))
    (broadcast S256x256 (Named.named κ "scale" 0x3DB504F3#32))

theorem tile_apply (v1 : Own) (v3 : All) (c : ℕ) (hc : c < 32) (h : S8192x128.Slices ![256 * c, 0] S256x128) (i l : Fin 256) :
    tile v1 v3 (256 * c) h (ix2 i l) = prod v1 v3 i (Cert.Row.col c hc l) := by
  unfold tile
  pointwise
  rw [Cert.Consts.named_scale]
  rfl

variable (v0 : Vec Ideal S256x128 .f32) (v2 : Vec Ideal S8192x128 .f32) (v1 : Own) (v3 : All) (i l : Fin 256)

theorem chunk0 : k1_pay6 v0 v2 (ix2 i l) = prod (k1_pay3 v0) (k1_pay4 v2) i (Cert.Row.col 0 (by omega) l) :=
  tile_apply (k1_pay3 v0) (k1_pay4 v2) 0 (by omega) slices_S8192x128_o0_0_S256x128 i l

theorem chunk1 : k1_pay10 v0 v2 (ix2 i l) = prod (k1_pay3 v0) (k1_pay4 v2) i (Cert.Row.col 1 (by omega) l) :=
  tile_apply (k1_pay3 v0) (k1_pay4 v2) 1 (by omega) slices_S8192x128_o256_0_S256x128 i l

theorem chunk2 : k1_pay14 v0 v2 (ix2 i l) = prod (k1_pay3 v0) (k1_pay4 v2) i (Cert.Row.col 2 (by omega) l) :=
  tile_apply (k1_pay3 v0) (k1_pay4 v2) 2 (by omega) slices_S8192x128_o512_0_S256x128 i l

theorem chunk3 : k1_pay18 v0 v2 (ix2 i l) = prod (k1_pay3 v0) (k1_pay4 v2) i (Cert.Row.col 3 (by omega) l) :=
  tile_apply (k1_pay3 v0) (k1_pay4 v2) 3 (by omega) slices_S8192x128_o768_0_S256x128 i l

theorem chunk4 : k1_pay25 (k1_pay23 v0 v2) k1_pay24 (ix2 i l) = prod (k1_pay3 v0) (k1_pay4 v2) i (Cert.Row.col 4 (by omega) l) :=
  tile_apply (k1_pay3 v0) (k1_pay4 v2) 4 (by omega) slices_S8192x128_o1024_0_S256x128 i l

theorem chunk5 : k1_pay29 v1 v3 (ix2 i l) = prod v1 v3 i (Cert.Row.col 5 (by omega) l) :=
  tile_apply v1 v3 5 (by omega) slices_S8192x128_o1280_0_S256x128 i l

theorem chunk6 : k1_pay33 v1 v3 (ix2 i l) = prod v1 v3 i (Cert.Row.col 6 (by omega) l) :=
  tile_apply v1 v3 6 (by omega) slices_S8192x128_o1536_0_S256x128 i l

theorem chunk7 : k1_pay37 v1 v3 (ix2 i l) = prod v1 v3 i (Cert.Row.col 7 (by omega) l) :=
  tile_apply v1 v3 7 (by omega) slices_S8192x128_o1792_0_S256x128 i l

theorem chunk8 : k1_pay41 v1 v3 (ix2 i l) = prod v1 v3 i (Cert.Row.col 8 (by omega) l) :=
  tile_apply v1 v3 8 (by omega) slices_S8192x128_o2048_0_S256x128 i l

theorem chunk9 : k1_pay46 v1 v3 (ix2 i l) = prod v1 v3 i (Cert.Row.col 9 (by omega) l) :=
  tile_apply v1 v3 9 (by omega) slices_S8192x128_o2304_0_S256x128 i l

theorem chunk10 : k1_pay51 v1 v3 (ix2 i l) = prod v1 v3 i (Cert.Row.col 10 (by omega) l) :=
  tile_apply v1 v3 10 (by omega) slices_S8192x128_o2560_0_S256x128 i l

theorem chunk11 : k1_pay55 v1 v3 (ix2 i l) = prod v1 v3 i (Cert.Row.col 11 (by omega) l) :=
  tile_apply v1 v3 11 (by omega) slices_S8192x128_o2816_0_S256x128 i l

theorem chunk12 : k1_pay59 v1 v3 (ix2 i l) = prod v1 v3 i (Cert.Row.col 12 (by omega) l) :=
  tile_apply v1 v3 12 (by omega) slices_S8192x128_o3072_0_S256x128 i l

theorem chunk13 : k1_pay63 v1 v3 (ix2 i l) = prod v1 v3 i (Cert.Row.col 13 (by omega) l) :=
  tile_apply v1 v3 13 (by omega) slices_S8192x128_o3328_0_S256x128 i l

theorem chunk14 : k1_pay67 v1 v3 (ix2 i l) = prod v1 v3 i (Cert.Row.col 14 (by omega) l) :=
  tile_apply v1 v3 14 (by omega) slices_S8192x128_o3584_0_S256x128 i l

theorem chunk15 : k1_pay73 (k1_pay72 v1 v3) (Named.named κ "scale" 0x3DB504F3#32) (ix2 i l) = prod v1 v3 i (Cert.Row.col 15 (by omega) l) :=
  tile_apply v1 v3 15 (by omega) slices_S8192x128_o3840_0_S256x128 i l

theorem chunk16 : k1_pay77 v1 v3 (ix2 i l) = prod v1 v3 i (Cert.Row.col 16 (by omega) l) :=
  tile_apply v1 v3 16 (by omega) slices_S8192x128_o4096_0_S256x128 i l

theorem chunk17 : k1_pay81 v1 v3 (ix2 i l) = prod v1 v3 i (Cert.Row.col 17 (by omega) l) :=
  tile_apply v1 v3 17 (by omega) slices_S8192x128_o4352_0_S256x128 i l

theorem chunk18 : k1_pay85 v1 v3 (ix2 i l) = prod v1 v3 i (Cert.Row.col 18 (by omega) l) :=
  tile_apply v1 v3 18 (by omega) slices_S8192x128_o4608_0_S256x128 i l

theorem chunk19 : k1_pay89 v1 v3 (ix2 i l) = prod v1 v3 i (Cert.Row.col 19 (by omega) l) :=
  tile_apply v1 v3 19 (by omega) slices_S8192x128_o4864_0_S256x128 i l

theorem chunk20 : k1_pay94 v1 v3 (ix2 i l) = prod v1 v3 i (Cert.Row.col 20 (by omega) l) :=
  tile_apply v1 v3 20 (by omega) slices_S8192x128_o5120_0_S256x128 i l

theorem chunk21 : k1_pay98 v1 v3 (ix2 i l) = prod v1 v3 i (Cert.Row.col 21 (by omega) l) :=
  tile_apply v1 v3 21 (by omega) slices_S8192x128_o5376_0_S256x128 i l

theorem chunk22 : k1_pay102 v1 v3 (ix2 i l) = prod v1 v3 i (Cert.Row.col 22 (by omega) l) :=
  tile_apply v1 v3 22 (by omega) slices_S8192x128_o5632_0_S256x128 i l

theorem chunk23 : k1_pay106 v1 v3 (ix2 i l) = prod v1 v3 i (Cert.Row.col 23 (by omega) l) :=
  tile_apply v1 v3 23 (by omega) slices_S8192x128_o5888_0_S256x128 i l

theorem chunk24 : k1_pay110 v1 v3 (ix2 i l) = prod v1 v3 i (Cert.Row.col 24 (by omega) l) :=
  tile_apply v1 v3 24 (by omega) slices_S8192x128_o6144_0_S256x128 i l

theorem chunk25 : k1_pay114 v1 v3 (ix2 i l) = prod v1 v3 i (Cert.Row.col 25 (by omega) l) :=
  tile_apply v1 v3 25 (by omega) slices_S8192x128_o6400_0_S256x128 i l

theorem chunk26 : k1_pay120 (k1_pay119 v1 v3) (ix2 i l) = prod v1 v3 i (Cert.Row.col 26 (by omega) l) :=
  tile_apply v1 v3 26 (by omega) slices_S8192x128_o6656_0_S256x128 i l

theorem chunk27 : k1_pay124 v1 v3 (ix2 i l) = prod v1 v3 i (Cert.Row.col 27 (by omega) l) :=
  tile_apply v1 v3 27 (by omega) slices_S8192x128_o6912_0_S256x128 i l

theorem chunk28 : k1_pay128 v1 v3 (ix2 i l) = prod v1 v3 i (Cert.Row.col 28 (by omega) l) :=
  tile_apply v1 v3 28 (by omega) slices_S8192x128_o7168_0_S256x128 i l

theorem chunk29 : k1_pay132 v1 v3 (ix2 i l) = prod v1 v3 i (Cert.Row.col 29 (by omega) l) :=
  tile_apply v1 v3 29 (by omega) slices_S8192x128_o7424_0_S256x128 i l

theorem chunk30 : k1_pay136 v1 v3 (ix2 i l) = prod v1 v3 i (Cert.Row.col 30 (by omega) l) :=
  tile_apply v1 v3 30 (by omega) slices_S8192x128_o7680_0_S256x128 i l

theorem chunk31 : k1_pay141 v1 v3 (ix2 i l) = prod v1 v3 i (Cert.Row.col 31 (by omega) l) :=
  tile_apply v1 v3 31 (by omega) slices_S8192x128_o7936_0_S256x128 i l

end Cert.KernelIdeal.Cells

end

end
-- ==== Proof.KI.Lanes.lean ====
/- A block's lanes before the pops: each lane holds the three largest of its row's 32 scaled products there. -/
module

public import proofs.«01_k».proof.Proof.KI.Block
import all proofs.«01_k».proof.Proof.KI.Block
public import proofs.«01_k».proof.Proof.KI.Chunk

@[expose] public section

set_option maxRecDepth 16384

noncomputable section

namespace Cert.KernelIdeal.Cells

open Cert.KernelIdeal Cert.KernelIdeal.Gen Cert.KernelIdeal.Hand Idealize.ShloMosaic Idealize.ShloMosaic.TcCoe

/-- The cells start at the fill. -/
theorem fill (p : S256x256.Idx) : cell p k1_pay5 k1_pay5 k1_pay5 = (⊥, ⊥, ⊥) := by
  have h : (k1_pay5 : Tile) p = ⊥ := Cert.Consts.named_neg
  unfold cell
  rw [h]

variable (c : Dev nD) (arg1 : Memref sig .tc .vmem S256x128 .f32) (harg1 : arg1.IsWhole) (arg2 : Memref sig .tc .vmem S8192x128 .f32) (harg2 : arg2.IsWhole)
  (x0 : Vec Ideal S256x128 .f32) (x1 : Vec Ideal S8192x128 .f32) (i l : Fin 256)

/-- Chunks `a` up to `b` of a row, at one lane. -/
def part (i l : Fin 256) (v1 : Own) (v3 : All) (a n : ℕ) : List EReal := (List.range' a n).map (Cert.Row.lane (prods v1 v3 i) l)

theorem part_cons (i l : Fin 256) (v1 : Own) (v3 : All) (a n : ℕ) (h : a < 32) :
    part i l v1 v3 a (n + 1) = prod v1 v3 i (Cert.Row.col a h l) :: part i l v1 v3 (a + 1) n := by
  unfold part
  rw [List.range'_succ, List.map_cons]
  congr 1
  exact dif_pos h

theorem part_nil (i l : Fin 256) (v1 : Own) (v3 : All) (a : ℕ) : part i l v1 v3 a 0 = [] := rfl

/-- Through chunk 3. -/
theorem kept1 : cell (ix2 i l)
    (blockRun.sl.r_2 (F := Ideal) c arg1 harg1 arg2 harg2 x0 x1)
    (blockRun.sl.r_3 (F := Ideal) c arg1 harg1 arg2 harg2 x0 x1)
    (blockRun.sl.r_4 (F := Ideal) c arg1 harg1 arg2 harg2 x0 x1) = run (⊥, ⊥, ⊥) (part i l (blockRun.sl.r (F := Ideal) c arg1 harg1 x0) (blockRun.sl.r_1 (F := Ideal) c arg2 harg2 x1) 0 4) := by
  refine (part1 _ _ _).trans ?_
  rw [fill]
  refine congrArg (run _) ?_
  iterate 4 rw [part_cons _ _ _ _ _ _ (by omega)]
  rw [part_nil]
  unfold vals
  simp only [List.map_cons, List.map_nil]
  exact congrArg₂ List.cons (chunk0 ..) (congrArg₂ List.cons (chunk1 ..) (congrArg₂ List.cons (chunk2 ..) (congrArg₂ List.cons (chunk3 ..) rfl)))

/-- Through chunk 9. -/
theorem kept2 : cell (ix2 i l)
    (blockRun.sl.r_7 (F := Ideal) c arg1 harg1 arg2 harg2 x0 x1)
    (blockRun.sl.r_8 (F := Ideal) c arg1 harg1 arg2 harg2 x0 x1)
    (maximumf (blockRun.sl.r_6 (F := Ideal) c arg1 harg1 arg2 harg2 x0 x1) (blockRun.sl.r_9 (F := Ideal) c arg1 harg1 arg2 harg2 x0 x1)) = run (⊥, ⊥, ⊥) (part i l (blockRun.sl.r (F := Ideal) c arg1 harg1 x0) (blockRun.sl.r_1 (F := Ideal) c arg2 harg2 x1) 0 10) := by
  refine (part2 _ _ _ _ _ _ _ _).trans ?_
  rw [show part i l (blockRun.sl.r (F := Ideal) c arg1 harg1 x0) (blockRun.sl.r_1 (F := Ideal) c arg2 harg2 x1) 0 10 = part i l (blockRun.sl.r (F := Ideal) c arg1 harg1 x0) (blockRun.sl.r_1 (F := Ideal) c arg2 harg2 x1) 0 4 ++ part i l (blockRun.sl.r (F := Ideal) c arg1 harg1 x0) (blockRun.sl.r_1 (F := Ideal) c arg2 harg2 x1) 4 6 by
    unfold part; rw [← List.map_append]; rfl, run_append]
  refine congrArg₂ run ?_ ?_
  · exact kept1 ..
  · iterate 6 rw [part_cons _ _ _ _ _ _ (by omega)]
    rw [part_nil]
    unfold vals
    simp only [List.map_cons, List.map_nil]
    exact congrArg₂ List.cons (chunk4 ..) (congrArg₂ List.cons (chunk5 ..) (congrArg₂ List.cons (chunk6 ..) (congrArg₂ List.cons (chunk7 ..) (congrArg₂ List.cons (chunk8 ..) (congrArg₂ List.cons (chunk9 ..) rfl)))))

/-- Through chunk 14. -/
theorem kept3 : cell (ix2 i l)
    (blockRun.sl.r_10 (F := Ideal) c arg1 harg1 arg2 harg2 x0 x1)
    (blockRun.sl.r_11 (F := Ideal) c arg1 harg1 arg2 harg2 x0 x1)
    (blockRun.sl.r_12 (F := Ideal) c arg1 harg1 arg2 harg2 x0 x1) = run (⊥, ⊥, ⊥) (part i l (blockRun.sl.r (F := Ideal) c arg1 harg1 x0) (blockRun.sl.r_1 (F := Ideal) c arg2 harg2 x1) 0 15) := by
  refine (part3 _ _ _ _ _ _ _).trans ?_
  rw [show part i l (blockRun.sl.r (F := Ideal) c arg1 harg1 x0) (blockRun.sl.r_1 (F := Ideal) c arg2 harg2 x1) 0 15 = part i l (blockRun.sl.r (F := Ideal) c arg1 harg1 x0) (blockRun.sl.r_1 (F := Ideal) c arg2 harg2 x1) 0 10 ++ part i l (blockRun.sl.r (F := Ideal) c arg1 harg1 x0) (blockRun.sl.r_1 (F := Ideal) c arg2 harg2 x1) 10 5 by
    unfold part; rw [← List.map_append]; rfl, run_append]
  refine congrArg₂ run ?_ ?_
  · exact kept2 ..
  · iterate 5 rw [part_cons _ _ _ _ _ _ (by omega)]
    rw [part_nil]
    unfold vals
    simp only [List.map_cons, List.map_nil]
    exact congrArg₂ List.cons (chunk10 ..) (congrArg₂ List.cons (chunk11 ..) (congrArg₂ List.cons (chunk12 ..) (congrArg₂ List.cons (chunk13 ..) (congrArg₂ List.cons (chunk14 ..) rfl))))

/-- Through chunk 20. -/
theorem kept4 : cell (ix2 i l)
    (blockRun.sl.r_16 (F := Ideal) c arg1 harg1 arg2 harg2 x0 x1)
    (blockRun.sl.r_18 (F := Ideal) c arg1 harg1 arg2 harg2 x0 x1)
    (maximumf (blockRun.sl.r_15 (F := Ideal) c arg1 harg1 arg2 harg2 x0 x1) (minimumf (blockRun.sl.r_14 (F := Ideal) c arg1 harg1 arg2 harg2 x0 x1) (blockRun.sl.r_17 (F := Ideal) c arg1 harg1 arg2 harg2 x0 x1))) = run (⊥, ⊥, ⊥) (part i l (blockRun.sl.r (F := Ideal) c arg1 harg1 x0) (blockRun.sl.r_1 (F := Ideal) c arg2 harg2 x1) 0 21) := by
  refine (part4 _ _ _ _ _ _ _ _).trans ?_
  rw [show part i l (blockRun.sl.r (F := Ideal) c arg1 harg1 x0) (blockRun.sl.r_1 (F := Ideal) c arg2 harg2 x1) 0 21 = part i l (blockRun.sl.r (F := Ideal) c arg1 harg1 x0) (blockRun.sl.r_1 (F := Ideal) c arg2 harg2 x1) 0 15 ++ part i l (blockRun.sl.r (F := Ideal) c arg1 harg1 x0) (blockRun.sl.r_1 (F := Ideal) c arg2 harg2 x1) 15 6 by
    unfold part; rw [← List.map_append]; rfl, run_append]
  refine congrArg₂ run ?_ ?_
  · exact kept3 ..
  · iterate 6 rw [part_cons _ _ _ _ _ _ (by omega)]
    rw [part_nil]
    unfold vals
    simp only [List.map_cons, List.map_nil]
    exact congrArg₂ List.cons (chunk15 ..) (congrArg₂ List.cons (chunk16 ..) (congrArg₂ List.cons (chunk17 ..) (congrArg₂ List.cons (chunk18 ..) (congrArg₂ List.cons (chunk19 ..) (congrArg₂ List.cons (chunk20 ..) rfl)))))

/-- Through chunk 25. -/
theorem kept5 : cell (ix2 i l)
    (blockRun.sl.r_19 (F := Ideal) c arg1 harg1 arg2 harg2 x0 x1)
    (blockRun.sl.r_20 (F := Ideal) c arg1 harg1 arg2 harg2 x0 x1)
    (blockRun.sl.r_21 (F := Ideal) c arg1 harg1 arg2 harg2 x0 x1) = run (⊥, ⊥, ⊥) (part i l (blockRun.sl.r (F := Ideal) c arg1 harg1 x0) (blockRun.sl.r_1 (F := Ideal) c arg2 harg2 x1) 0 26) := by
  refine (part5 _ _ _ _ _ _ _ _).trans ?_
  rw [show part i l (blockRun.sl.r (F := Ideal) c arg1 harg1 x0) (blockRun.sl.r_1 (F := Ideal) c arg2 harg2 x1) 0 26 = part i l (blockRun.sl.r (F := Ideal) c arg1 harg1 x0) (blockRun.sl.r_1 (F := Ideal) c arg2 harg2 x1) 0 21 ++ part i l (blockRun.sl.r (F := Ideal) c arg1 harg1 x0) (blockRun.sl.r_1 (F := Ideal) c arg2 harg2 x1) 21 5 by
    unfold part; rw [← List.map_append]; rfl, run_append]
  refine congrArg₂ run ?_ ?_
  · exact kept4 ..
  · iterate 5 rw [part_cons _ _ _ _ _ _ (by omega)]
    rw [part_nil]
    unfold vals
    simp only [List.map_cons, List.map_nil]
    exact congrArg₂ List.cons (chunk21 ..) (congrArg₂ List.cons (chunk22 ..) (congrArg₂ List.cons (chunk23 ..) (congrArg₂ List.cons (chunk24 ..) (congrArg₂ List.cons (chunk25 ..) rfl))))

/-- Through chunk 31. -/
theorem kept6 : cell (ix2 i l)
    (blockRun.sl.r_25 (F := Ideal) c arg1 harg1 arg2 harg2 x0 x1)
    (k1_pay144 (blockRun.sl.r_23 (F := Ideal) c arg1 harg1 arg2 harg2 x0 x1) (blockRun.sl.r_26 (F := Ideal) c arg1 harg1 arg2 harg2 x0 x1))
    (k1_pay145 (blockRun.sl.r_23 (F := Ideal) c arg1 harg1 arg2 harg2 x0 x1) (blockRun.sl.r_24 (F := Ideal) c arg1 harg1 arg2 harg2 x0 x1) (blockRun.sl.r_26 (F := Ideal) c arg1 harg1 arg2 harg2 x0 x1)) = run (⊥, ⊥, ⊥) (part i l (blockRun.sl.r (F := Ideal) c arg1 harg1 x0) (blockRun.sl.r_1 (F := Ideal) c arg2 harg2 x1) 0 32) := by
  refine (part6 _ _ _ _ _ _ _).trans ?_
  rw [show part i l (blockRun.sl.r (F := Ideal) c arg1 harg1 x0) (blockRun.sl.r_1 (F := Ideal) c arg2 harg2 x1) 0 32 = part i l (blockRun.sl.r (F := Ideal) c arg1 harg1 x0) (blockRun.sl.r_1 (F := Ideal) c arg2 harg2 x1) 0 26 ++ part i l (blockRun.sl.r (F := Ideal) c arg1 harg1 x0) (blockRun.sl.r_1 (F := Ideal) c arg2 harg2 x1) 26 6 by
    unfold part; rw [← List.map_append]; rfl, run_append]
  refine congrArg₂ run ?_ ?_
  · exact kept5 ..
  · iterate 6 rw [part_cons _ _ _ _ _ _ (by omega)]
    rw [part_nil]
    unfold vals
    simp only [List.map_cons, List.map_nil]
    exact congrArg₂ List.cons (chunk26 ..) (congrArg₂ List.cons (chunk27 ..) (congrArg₂ List.cons (chunk28 ..) (congrArg₂ List.cons (chunk29 ..) (congrArg₂ List.cons (chunk30 ..) (congrArg₂ List.cons (chunk31 ..) rfl)))))

/-- Before the pops each lane holds its three largest products. -/
theorem kept : cell (ix2 i l)
    (blockRun.sl.r_25 (F := Ideal) c arg1 harg1 arg2 harg2 x0 x1)
    (k1_pay144 (blockRun.sl.r_23 (F := Ideal) c arg1 harg1 arg2 harg2 x0 x1) (blockRun.sl.r_26 (F := Ideal) c arg1 harg1 arg2 harg2 x0 x1))
    (k1_pay145 (blockRun.sl.r_23 (F := Ideal) c arg1 harg1 arg2 harg2 x0 x1) (blockRun.sl.r_24 (F := Ideal) c arg1 harg1 arg2 harg2 x0 x1) (blockRun.sl.r_26 (F := Ideal) c arg1 harg1 arg2 harg2 x0 x1)) = Cert.Row.init (prods (blockRun.sl.r (F := Ideal) c arg1 harg1 x0) (blockRun.sl.r_1 (F := Ideal) c arg2 harg2 x1) i) l := by
  refine (kept6 ..).trans ?_
  unfold Cert.Row.init
  rw [cells_eq_run, List.range_eq_range']
  rfl

end Cert.KernelIdeal.Cells

end

end
-- ==== Proof.KI.Pops.lean ====
/- The thirty pops of a block's rows, and what is left at the head of the lanes. -/
module

public import proofs.«01_k».proof.Proof.KI.Lanes
public import Idealize.ShloMosaic.Lib.Pointwise

@[expose] public section

set_option maxRecDepth 16384

noncomputable section

namespace Cert.KernelIdeal.Cells

open Cert.KernelIdeal Cert.KernelIdeal.Gen Cert.KernelIdeal.Hand Idealize.ShloMosaic Idealize.ShloMosaic.TcCoe

abbrev Tiles := Tile × Tile × Tile

/-- A row of three tiles, as lanes of cells. -/
def cellsRow (T : Tiles) (i : Fin 256) : Fin 256 → Cert.Row.Cell := fun l => cell (ix2 i l) T.1 T.2.1 T.2.2

/-- One trip of the loop. -/
def step (T : Tiles) : Tiles := (k1_pay147 T.1 T.2.1, k1_pay148 T.1 T.2.1 T.2.2, k1_pay149 T.1 T.2.2)

theorem pay146_apply (t : Tile) (i l : Fin 256) : k1_pay146 t (ix2 i l) = BitVec.ofBool (decide (t (ix2 i l) = Finset.univ.sup fun l => t (ix2 i l))) := by
  pointwise [k1_pay146]
  rw [Cert.Consts.ninf]
  rfl

/-- What a select on the row's maximum gives. -/
theorem select_apply (t a b : Tile) (i l : Fin 256) :
    select (k1_pay146 t) a b (ix2 i l) = if t (ix2 i l) = Finset.univ.sup fun l => t (ix2 i l) then a (ix2 i l) else b (ix2 i l) := by
  show Scalar.select (k1_pay146 t (ix2 i l)) (a (ix2 i l)) (b (ix2 i l)) = _
  rw [pay146_apply]
  exact WordCmp.select_decide ..

/-- A trip is a pop of every row. -/
theorem cellsRow_step (T : Tiles) (i : Fin 256) : cellsRow (step T) i = Cert.Row.pop (cellsRow T i) := by
  funext l
  have h1 : (step T).1 (ix2 i l) = _ := select_apply T.1 T.2.1 T.1 i l
  have h2 : (step T).2.1 (ix2 i l) = _ := select_apply T.1 T.2.2 T.2.1 i l
  have h3 : (step T).2.2 (ix2 i l) = _ := select_apply T.1 (broadcast S256x256 (Named.named κ "neg" 0xFF61B1E6#32)) T.2.2 i l
  unfold cellsRow cell Cert.Row.pop Cert.Row.popCell Cert.Row.top
  rw [h1, h2, h3]
  dsimp only
  split
  · exact congrArg (fun e : EReal => (T.2.1 (ix2 i l), T.2.2 (ix2 i l), e)) Cert.Consts.named_neg
  · rfl

/-- The rows' floor: the largest head, and never under the least positive value kept. -/
theorem pay150_apply (t : Tile) (i : Fin 256) : k1_pay150 t (ix2 i 0) = max (Finset.univ.sup fun l => t (ix2 i l)) ((10633824 / 2 ^ 123 : ℝ) : EReal) := by
  pointwise [k1_pay150]
  rw [Cert.Consts.ninf, Cert.Consts.tiny]
  rfl

/-- Trips one after another. -/
theorem cellsRow_fold {α : Type} (L : List α) (T : Tiles) (i : Fin 256) :
    cellsRow (L.foldl (fun T _ => step T) T) i = Cert.Row.pops (cellsRow T i) L.length := by
  induction L using List.reverseRecOn with
  | nil => rfl
  | append_singleton L a ih =>
    rw [List.foldl_append, List.length_append]
    show cellsRow (step _) i = Cert.Row.pop (Cert.Row.pops (cellsRow T i) L.length)
    rw [cellsRow_step, ih]

variable (c : Dev nD) (arg1 : Memref sig .tc .vmem S256x128 .f32) (harg1 : arg1.IsWhole) (arg2 : Memref sig .tc .vmem S8192x128 .f32) (harg2 : arg2.IsWhole)
  (x0 : Vec Ideal S256x128 .f32) (x1 : Vec Ideal S8192x128 .f32) (i : Fin 256)

/-- After the thirty trips. -/
theorem popped : cellsRow (blockRun.sl.r_27 (F := Ideal) c arg1 harg1 arg2 harg2 x0 x1) i = Cert.Row.pops (Cert.Row.init (prods (blockRun.sl.r (F := Ideal) c arg1 harg1 x0) (blockRun.sl.r_1 (F := Ideal) c arg2 harg2 x1) i)) 30 := by
  unfold blockRun.sl.r_27
  rw [Scf.fold_eq]
  refine (cellsRow_fold (List.finRange _) _ i).trans ?_
  rw [List.length_finRange]
  refine congrArg₂ Cert.Row.pops (funext fun l => kept ..) (by decide +kernel)

/-- Each row's floor. -/
theorem floor_apply : blockRun.sl.r_28 (F := Ideal) c arg1 harg1 arg2 harg2 x0 x1 (ix2 i 0) =
    max (Cert.Row.left (prods (blockRun.sl.r (F := Ideal) c arg1 harg1 x0) (blockRun.sl.r_1 (F := Ideal) c arg2 harg2 x1) i)) ((10633824 / 2 ^ 123 : ℝ) : EReal) := by
  unfold blockRun.sl.r_28
  rw [pay150_apply]
  refine congrArg (fun e : EReal => max e _) ?_
  unfold Cert.Row.left
  rw [← popped c arg1 harg1 arg2 harg2 x0 x1 i]
  rfl

end Cert.KernelIdeal.Cells

end

end
-- ==== Proof.KI.Stored.lean ====
/- What a block stores: its 32 column tiles of thresholded products, and over them the diagonal tile. -/
module

public import proofs.«01_k».proof.Proof.KI.Pops

@[expose] public section

set_option maxRecDepth 16384

noncomputable section

namespace Cert.KernelIdeal.Cells

open Cert.KernelIdeal Cert.KernelIdeal.Gen Cert.KernelIdeal.Hand Idealize.ShloMosaic Idealize.ShloMosaic.TcCoe

abbrev Floors := FVec Ideal S256x1 .f32

/-- A product kept where it reaches its row's floor, else nought. -/
def kept_at (v1 : Own) (v3 : All) (f : Floors) (i : Fin 256) (k : Fin 8192) : EReal :=
  if f (ix2 i 0) ≤ prod v1 v3 i k then prod v1 v3 i k else 0

/-- A tile with its rows' floors put on it. -/
def thresh (t : Tile) (f : Floors) : Tile :=
  select (cmpf .oge t (broadcastTo S256x256 f broadcasts_S256x1_S256x256)) t (broadcast S256x256 (Scalar.ofBits .f32 0x00000000#32))

theorem thresh_apply (t : Tile) (f : Floors) (i l : Fin 256) :
    thresh t f (ix2 i l) = if f (ix2 i 0) ≤ t (ix2 i l) then t (ix2 i l) else 0 := by
  have h : cmpf .oge t (broadcastTo S256x256 f broadcasts_S256x1_S256x256) (ix2 i l) = BitVec.ofBool (decide (f (ix2 i 0) ≤ t (ix2 i l))) := by
    pointwise
  show Scalar.select (cmpf .oge t (broadcastTo S256x256 f broadcasts_S256x1_S256x256) (ix2 i l)) (t (ix2 i l)) (Ideal.ofBits .f32 0x00000000#32) = _
  rw [h, Cert.Consts.zero]
  exact WordCmp.select_decide ..

/-- A stored column tile agrees with the block's kept products. -/
theorem piece_apply (v1 : Own) (v3 : All) (f : Floors) (c : ℕ) (hc : c < 32) (o : ℕ) (ho : 256 * c = o) (h : S8192x128.Slices ![o, 0] S256x128)
    (inb : ∀ a, (![0, o] : Fin 2 → ℕ) a + S256x256.size a ≤ S256x8192.size a) (x : S256x256.Idx) :
    thresh (tile v1 v3 o h) f x =
      (fun y : S256x8192.Idx => kept_at v1 v3 f (y 0) (y 1)) ((Rect.unit (s := S256x8192) ![0, o] S256x256.size inb).emb x) := by
  subst ho
  obtain ⟨i, l, rfl⟩ : ∃ i l : Fin 256, x = ix2 i l := ⟨x 0, x 1, (funext fun a => by match a with | 0 => rfl | 1 => rfl)⟩
  rw [thresh_apply, tile_apply v1 v3 c hc h i l]
  have h0 : ((Rect.unit (s := S256x8192) ![0, 256 * c] S256x256.size inb).emb (ix2 i l)) 0 = i := Fin.ext (by
    rw [Rect.emb_apply]; show 0 + 1 * i.val = i.val; omega)
  have h1 : ((Rect.unit (s := S256x8192) ![0, 256 * c] S256x256.size inb).emb (ix2 i l)) 1 = Cert.Row.col c hc l := Fin.ext (by
    rw [Rect.emb_apply]; show 256 * c + 1 * l.val = 256 * c + l.val; omega)
  show _ = kept_at v1 v3 f _ _
  rw [h0, h1]
  rfl

/-- The diagonal tile: one on the diagonal, off it the rows' own products kept as elsewhere. -/
theorem diag_apply (v1 : Own) (f : Floors) (i l : Fin 256) :
    k1_pay2 v1 f (ix2 i l) = if i = l then 1 else
      if f (ix2 i 0) ≤ (∑ d : Fin 128, v1 (ix2 i d) * v1 (ix2 l d)) * Cert.Spec.scale then (∑ d : Fin 128, v1 (ix2 i d) * v1 (ix2 l d)) * Cert.Spec.scale else 0 := by
  have h : k1_pay2 v1 f (ix2 i l) = Scalar.select (cmpi .eq (iota .tc S256x256 32 [0] iota_S256x256_d0_w32) (iota .tc S256x256 32 [1] iota_S256x256_d1_w32) (ix2 i l))
      (Ideal.ofBits .f32 0x3F800000#32)
      (thresh (mulf (matmul dot_S256x128_S256x128_S256x256_1_1_0_0_n_n none v1 v1 (constant S256x256 .f32 0x00000000#32))
        (broadcast S256x256 (Named.named κ "scale" 0x3DB504F3#32))) f (ix2 i l)) := rfl
  have h1 : cmpi .eq (iota .tc S256x256 32 [0] iota_S256x256_d0_w32) (iota .tc S256x256 32 [1] iota_S256x256_d1_w32) (ix2 i l) = BitVec.ofBool (decide (i = l)) := by
    pointwise
    refine (WordCmp.cmpi_eq_ofNat (w := 32) (a := i.val) (b := l.val) (by omega) (by omega)).trans ?_
    simp only [Fin.ext_iff]
  have h2 : mulf (matmul dot_S256x128_S256x128_S256x256_1_1_0_0_n_n none v1 v1 (constant S256x256 .f32 0x00000000#32))
      (broadcast S256x256 (Named.named κ "scale" 0x3DB504F3#32)) (ix2 i l) = (∑ d : Fin 128, v1 (ix2 i d) * v1 (ix2 l d)) * Cert.Spec.scale := by
    pointwise
    rw [Cert.Consts.named_scale]
    rfl
  rw [h, h1, thresh_apply, h2, Cert.Consts.one]
  exact WordCmp.select_decide ..

/-! The stored column tiles, as the thresholded products they are. -/

theorem stored0 (v1 : Own) (v3 : All) (t : Tile) : k1_pay151 v1 v3 t = thresh (tile v1 v3 0 slices_S8192x128_o0_0_S256x128) (k1_pay150 t) := rfl
theorem stored1 (v1 : Own) (v3 : All) (t : Tile) : k1_pay152 v1 v3 t = thresh (tile v1 v3 256 slices_S8192x128_o256_0_S256x128) (k1_pay150 t) := rfl
theorem stored2 (v1 : Own) (v3 : All) (t : Tile) : k1_pay153 v1 v3 t = thresh (tile v1 v3 512 slices_S8192x128_o512_0_S256x128) (k1_pay150 t) := rfl
theorem stored3 (v1 : Own) (v3 : All) (f : Floors) : k1_pay154 v1 v3 f = thresh (tile v1 v3 768 slices_S8192x128_o768_0_S256x128) f := rfl
theorem stored4 (v1 : Own) (v3 : All) (f : Floors) : k1_pay155 v1 v3 f = thresh (tile v1 v3 1024 slices_S8192x128_o1024_0_S256x128) f := rfl
theorem stored5 (v1 : Own) (v3 : All) (f : Floors) : k1_pay156 v1 v3 f = thresh (tile v1 v3 1280 slices_S8192x128_o1280_0_S256x128) f := rfl
theorem stored6 (v1 : Own) (v3 : All) (f : Floors) : k1_pay157 v1 v3 f = thresh (tile v1 v3 1536 slices_S8192x128_o1536_0_S256x128) f := rfl
theorem stored7 (v1 : Own) (v3 : All) (f : Floors) : k1_pay158 v1 v3 f = thresh (tile v1 v3 1792 slices_S8192x128_o1792_0_S256x128) f := rfl
theorem stored8 (v1 : Own) (v3 : All) (f : Floors) : k1_pay159 v1 v3 f = thresh (tile v1 v3 2048 slices_S8192x128_o2048_0_S256x128) f := rfl
theorem stored9 (v1 : Own) (v3 : All) (f : Floors) : k1_pay160 v1 v3 f = thresh (tile v1 v3 2304 slices_S8192x128_o2304_0_S256x128) f := rfl
theorem stored10 (v1 : Own) (v3 : All) (f : Floors) : k1_pay161 v1 v3 f = thresh (tile v1 v3 2560 slices_S8192x128_o2560_0_S256x128) f := rfl
theorem stored11 (v1 : Own) (v3 : All) (f : Floors) : k1_pay162 v1 v3 f = thresh (tile v1 v3 2816 slices_S8192x128_o2816_0_S256x128) f := rfl
theorem stored12 (v1 : Own) (v3 : All) (f : Floors) : k1_pay163 v1 v3 f = thresh (tile v1 v3 3072 slices_S8192x128_o3072_0_S256x128) f := rfl
theorem stored13 (v1 : Own) (v3 : All) (f : Floors) : k1_pay164 v1 v3 f = thresh (tile v1 v3 3328 slices_S8192x128_o3328_0_S256x128) f := rfl
theorem stored14 (v1 : Own) (v3 : All) (f : Floors) : k1_pay165 v1 v3 f = thresh (tile v1 v3 3584 slices_S8192x128_o3584_0_S256x128) f := rfl
theorem stored15 (v1 : Own) (v3 : All) (f : Floors) : k1_pay166 v1 v3 f = thresh (tile v1 v3 3840 slices_S8192x128_o3840_0_S256x128) f := rfl
theorem stored16 (v1 : Own) (v3 : All) (f : Floors) : k1_pay167 v1 v3 f = thresh (tile v1 v3 4096 slices_S8192x128_o4096_0_S256x128) f := rfl
theorem stored17 (v1 : Own) (v3 : All) (f : Floors) : k1_pay168 v1 v3 f = thresh (tile v1 v3 4352 slices_S8192x128_o4352_0_S256x128) f := rfl
theorem stored18 (v1 : Own) (v3 : All) (f : Floors) : k1_pay169 v1 v3 f = thresh (tile v1 v3 4608 slices_S8192x128_o4608_0_S256x128) f := rfl
theorem stored19 (v1 : Own) (v3 : All) (f : Floors) : k1_pay170 v1 v3 f = thresh (tile v1 v3 4864 slices_S8192x128_o4864_0_S256x128) f := rfl
theorem stored20 (v1 : Own) (v3 : All) (f : Floors) : k1_pay171 v1 v3 f = thresh (tile v1 v3 5120 slices_S8192x128_o5120_0_S256x128) f := rfl
theorem stored21 (v1 : Own) (v3 : All) (f : Floors) : k1_pay172 v1 v3 f = thresh (tile v1 v3 5376 slices_S8192x128_o5376_0_S256x128) f := rfl
theorem stored22 (v1 : Own) (v3 : All) (f : Floors) : k1_pay173 v1 v3 f = thresh (tile v1 v3 5632 slices_S8192x128_o5632_0_S256x128) f := rfl
theorem stored23 (v1 : Own) (v3 : All) (f : Floors) : k1_pay174 v1 v3 f = thresh (tile v1 v3 5888 slices_S8192x128_o5888_0_S256x128) f := rfl
theorem stored24 (v1 : Own) (v3 : All) (f : Floors) : k1_pay175 v1 v3 f = thresh (tile v1 v3 6144 slices_S8192x128_o6144_0_S256x128) f := rfl
theorem stored25 (v1 : Own) (v3 : All) (f : Floors) : k1_pay176 v1 v3 f = thresh (tile v1 v3 6400 slices_S8192x128_o6400_0_S256x128) f := rfl
theorem stored26 (v1 : Own) (v3 : All) (f : Floors) : k1_pay177 v1 v3 f = thresh (tile v1 v3 6656 slices_S8192x128_o6656_0_S256x128) f := rfl
theorem stored27 (v1 : Own) (v3 : All) (f : Floors) : k1_pay178 v1 v3 f = thresh (tile v1 v3 6912 slices_S8192x128_o6912_0_S256x128) f := rfl
theorem stored28 (v1 : Own) (v3 : All) (f : Floors) : k1_pay179 v1 v3 f = thresh (tile v1 v3 7168 slices_S8192x128_o7168_0_S256x128) f := rfl
theorem stored29 (v1 : Own) (v3 : All) (f : Floors) : k1_pay180 v1 v3 f = thresh (tile v1 v3 7424 slices_S8192x128_o7424_0_S256x128) f := rfl
theorem stored30 (v1 : Own) (v3 : All) (f : Floors) : k1_pay181 v1 v3 f = thresh (tile v1 v3 7680 slices_S8192x128_o7680_0_S256x128) f := rfl
theorem stored31 (v1 : Own) (v3 : All) (f : Floors) : k1_pay1 v1 v3 f = thresh (tile v1 v3 7936 slices_S8192x128_o7936_0_S256x128) f := rfl

variable (c : Dev nD) (p : grid1.Coords) (arg1 : Memref sig .tc .vmem S256x128 .f32) (harg1 : arg1.IsWhole) (arg2 : Memref sig .tc .vmem S8192x128 .f32) (harg2 : arg2.IsWhole)
  (arg3 : Memref sig .tc .vmem S256x8192 .f32) (harg3 : arg3.IsWhole) (x0 : Vec Ideal S256x128 .f32) (x1 : Vec Ideal S8192x128 .f32)

/-- The block's newest piece is the diagonal tile, and the pieces before it agree with its kept products. -/
theorem pieces : ∃ L : List (View.Piece (Elt Ideal) S256x8192 .f32),
    (blockRun (F := Ideal) c p arg1 harg1 arg2 harg2 arg3 harg3 x0 x1).1 =
      ⟨Rect.unit (s := S256x8192) (k1_off1 p) S256x256.size (k1_off1_inb p), k1_pay2 (blockRun.sl.r (F := Ideal) c arg1 harg1 x0) (blockRun.sl.r_28 (F := Ideal) c arg1 harg1 arg2 harg2 x0 x1)⟩ :: L ∧
    (∀ q ∈ L, ∀ x : q.1.shape.Idx, q.2 x = (fun y : S256x8192.Idx => kept_at (blockRun.sl.r (F := Ideal) c arg1 harg1 x0) (blockRun.sl.r_1 (F := Ideal) c arg2 harg2 x1) (blockRun.sl.r_28 (F := Ideal) c arg1 harg1 arg2 harg2 x0 x1) (y 0) (y 1)) (q.1.emb x)) := by
  unfold blockRun
  dsimp only
  refine ⟨_, rfl, ?_⟩
  refine List.forall_mem_cons.mpr ⟨?_, ?_⟩
  · intro x
    dsimp only
    exact (congrFun (stored31 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 31 (by omega) 7936 rfl slices_S8192x128_o7936_0_S256x128 inb_S256x8192_S256x256_0_7936 x)
  refine List.forall_mem_cons.mpr ⟨?_, ?_⟩
  · intro x
    dsimp only
    exact (congrFun (stored30 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 30 (by omega) 7680 rfl slices_S8192x128_o7680_0_S256x128 inb_S256x8192_S256x256_0_7680 x)
  refine List.forall_mem_cons.mpr ⟨?_, ?_⟩
  · intro x
    dsimp only
    exact (congrFun (stored29 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 29 (by omega) 7424 rfl slices_S8192x128_o7424_0_S256x128 inb_S256x8192_S256x256_0_7424 x)
  refine List.forall_mem_cons.mpr ⟨?_, ?_⟩
  · intro x
    dsimp only
    exact (congrFun (stored28 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 28 (by omega) 7168 rfl slices_S8192x128_o7168_0_S256x128 inb_S256x8192_S256x256_0_7168 x)
  refine List.forall_mem_cons.mpr ⟨?_, ?_⟩
  · intro x
    dsimp only
    exact (congrFun (stored27 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 27 (by omega) 6912 rfl slices_S8192x128_o6912_0_S256x128 inb_S256x8192_S256x256_0_6912 x)
  refine List.forall_mem_cons.mpr ⟨?_, ?_⟩
  · intro x
    dsimp only
    exact (congrFun (stored26 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 26 (by omega) 6656 rfl slices_S8192x128_o6656_0_S256x128 inb_S256x8192_S256x256_0_6656 x)
  refine List.forall_mem_cons.mpr ⟨?_, ?_⟩
  · intro x
    dsimp only
    exact (congrFun (stored25 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 25 (by omega) 6400 rfl slices_S8192x128_o6400_0_S256x128 inb_S256x8192_S256x256_0_6400 x)
  refine List.forall_mem_cons.mpr ⟨?_, ?_⟩
  · intro x
    dsimp only
    exact (congrFun (stored24 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 24 (by omega) 6144 rfl slices_S8192x128_o6144_0_S256x128 inb_S256x8192_S256x256_0_6144 x)
  refine List.forall_mem_cons.mpr ⟨?_, ?_⟩
  · intro x
    dsimp only
    exact (congrFun (stored23 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 23 (by omega) 5888 rfl slices_S8192x128_o5888_0_S256x128 inb_S256x8192_S256x256_0_5888 x)
  refine List.forall_mem_cons.mpr ⟨?_, ?_⟩
  · intro x
    dsimp only
    exact (congrFun (stored22 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 22 (by omega) 5632 rfl slices_S8192x128_o5632_0_S256x128 inb_S256x8192_S256x256_0_5632 x)
  refine List.forall_mem_cons.mpr ⟨?_, ?_⟩
  · intro x
    dsimp only
    exact (congrFun (stored21 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 21 (by omega) 5376 rfl slices_S8192x128_o5376_0_S256x128 inb_S256x8192_S256x256_0_5376 x)
  refine List.forall_mem_cons.mpr ⟨?_, ?_⟩
  · intro x
    dsimp only
    exact (congrFun (stored20 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 20 (by omega) 5120 rfl slices_S8192x128_o5120_0_S256x128 inb_S256x8192_S256x256_0_5120 x)
  refine List.forall_mem_cons.mpr ⟨?_, ?_⟩
  · intro x
    dsimp only
    exact (congrFun (stored19 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 19 (by omega) 4864 rfl slices_S8192x128_o4864_0_S256x128 inb_S256x8192_S256x256_0_4864 x)
  refine List.forall_mem_cons.mpr ⟨?_, ?_⟩
  · intro x
    dsimp only
    exact (congrFun (stored18 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 18 (by omega) 4608 rfl slices_S8192x128_o4608_0_S256x128 inb_S256x8192_S256x256_0_4608 x)
  refine List.forall_mem_cons.mpr ⟨?_, ?_⟩
  · intro x
    dsimp only
    exact (congrFun (stored17 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 17 (by omega) 4352 rfl slices_S8192x128_o4352_0_S256x128 inb_S256x8192_S256x256_0_4352 x)
  refine List.forall_mem_cons.mpr ⟨?_, ?_⟩
  · intro x
    dsimp only
    exact (congrFun (stored16 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 16 (by omega) 4096 rfl slices_S8192x128_o4096_0_S256x128 inb_S256x8192_S256x256_0_4096 x)
  refine List.forall_mem_cons.mpr ⟨?_, ?_⟩
  · intro x
    dsimp only
    exact (congrFun (stored15 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 15 (by omega) 3840 rfl slices_S8192x128_o3840_0_S256x128 inb_S256x8192_S256x256_0_3840 x)
  refine List.forall_mem_cons.mpr ⟨?_, ?_⟩
  · intro x
    dsimp only
    exact (congrFun (stored14 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 14 (by omega) 3584 rfl slices_S8192x128_o3584_0_S256x128 inb_S256x8192_S256x256_0_3584 x)
  refine List.forall_mem_cons.mpr ⟨?_, ?_⟩
  · intro x
    dsimp only
    exact (congrFun (stored13 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 13 (by omega) 3328 rfl slices_S8192x128_o3328_0_S256x128 inb_S256x8192_S256x256_0_3328 x)
  refine List.forall_mem_cons.mpr ⟨?_, ?_⟩
  · intro x
    dsimp only
    exact (congrFun (stored12 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 12 (by omega) 3072 rfl slices_S8192x128_o3072_0_S256x128 inb_S256x8192_S256x256_0_3072 x)
  refine List.forall_mem_cons.mpr ⟨?_, ?_⟩
  · intro x
    dsimp only
    exact (congrFun (stored11 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 11 (by omega) 2816 rfl slices_S8192x128_o2816_0_S256x128 inb_S256x8192_S256x256_0_2816 x)
  refine List.forall_mem_cons.mpr ⟨?_, ?_⟩
  · intro x
    dsimp only
    exact (congrFun (stored10 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 10 (by omega) 2560 rfl slices_S8192x128_o2560_0_S256x128 inb_S256x8192_S256x256_0_2560 x)
  refine List.forall_mem_cons.mpr ⟨?_, ?_⟩
  · intro x
    dsimp only
    exact (congrFun (stored9 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 9 (by omega) 2304 rfl slices_S8192x128_o2304_0_S256x128 inb_S256x8192_S256x256_0_2304 x)
  refine List.forall_mem_cons.mpr ⟨?_, ?_⟩
  · intro x
    dsimp only
    exact (congrFun (stored8 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 8 (by omega) 2048 rfl slices_S8192x128_o2048_0_S256x128 inb_S256x8192_S256x256_0_2048 x)
  refine List.forall_mem_cons.mpr ⟨?_, ?_⟩
  · intro x
    dsimp only
    exact (congrFun (stored7 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 7 (by omega) 1792 rfl slices_S8192x128_o1792_0_S256x128 inb_S256x8192_S256x256_0_1792 x)
  refine List.forall_mem_cons.mpr ⟨?_, ?_⟩
  · intro x
    dsimp only
    exact (congrFun (stored6 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 6 (by omega) 1536 rfl slices_S8192x128_o1536_0_S256x128 inb_S256x8192_S256x256_0_1536 x)
  refine List.forall_mem_cons.mpr ⟨?_, ?_⟩
  · intro x
    dsimp only
    exact (congrFun (stored5 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 5 (by omega) 1280 rfl slices_S8192x128_o1280_0_S256x128 inb_S256x8192_S256x256_0_1280 x)
  refine List.forall_mem_cons.mpr ⟨?_, ?_⟩
  · intro x
    dsimp only
    exact (congrFun (stored4 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 4 (by omega) 1024 rfl slices_S8192x128_o1024_0_S256x128 inb_S256x8192_S256x256_0_1024 x)
  refine List.forall_mem_cons.mpr ⟨?_, ?_⟩
  · intro x
    dsimp only
    exact (congrFun (stored3 (blockRun.sl.r (F := Ideal) c arg1 harg1 x0) (blockRun.sl.r_1 (F := Ideal) c arg2 harg2 x1) (blockRun.sl.r_28 (F := Ideal) c arg1 harg1 arg2 harg2 x0 x1)) x).trans (piece_apply (blockRun.sl.r (F := Ideal) c arg1 harg1 x0) (blockRun.sl.r_1 (F := Ideal) c arg2 harg2 x1) (blockRun.sl.r_28 (F := Ideal) c arg1 harg1 arg2 harg2 x0 x1) 3 (by omega) 768 rfl slices_S8192x128_o768_0_S256x128 inb_S256x8192_S256x256_0_768 x)
  refine List.forall_mem_cons.mpr ⟨?_, ?_⟩
  · intro x
    dsimp only
    exact (congrFun (stored2 (blockRun.sl.r (F := Ideal) c arg1 harg1 x0) (blockRun.sl.r_1 (F := Ideal) c arg2 harg2 x1) _) x).trans (piece_apply (blockRun.sl.r (F := Ideal) c arg1 harg1 x0) (blockRun.sl.r_1 (F := Ideal) c arg2 harg2 x1) (blockRun.sl.r_28 (F := Ideal) c arg1 harg1 arg2 harg2 x0 x1) 2 (by omega) 512 rfl slices_S8192x128_o512_0_S256x128 inb_S256x8192_S256x256_0_512 x)
  refine List.forall_mem_cons.mpr ⟨?_, ?_⟩
  · intro x
    dsimp only
    exact (congrFun (stored1 (blockRun.sl.r (F := Ideal) c arg1 harg1 x0) (blockRun.sl.r_1 (F := Ideal) c arg2 harg2 x1) _) x).trans (piece_apply (blockRun.sl.r (F := Ideal) c arg1 harg1 x0) (blockRun.sl.r_1 (F := Ideal) c arg2 harg2 x1) (blockRun.sl.r_28 (F := Ideal) c arg1 harg1 arg2 harg2 x0 x1) 1 (by omega) 256 rfl slices_S8192x128_o256_0_S256x128 inb_S256x8192_S256x256_0_256 x)
  refine List.forall_mem_cons.mpr ⟨?_, ?_⟩
  · intro x
    dsimp only
    exact (congrFun (stored0 (blockRun.sl.r (F := Ideal) c arg1 harg1 x0) (blockRun.sl.r_1 (F := Ideal) c arg2 harg2 x1) _) x).trans (piece_apply (blockRun.sl.r (F := Ideal) c arg1 harg1 x0) (blockRun.sl.r_1 (F := Ideal) c arg2 harg2 x1) (blockRun.sl.r_28 (F := Ideal) c arg1 harg1 arg2 harg2 x0 x1) 0 (by omega) 0 rfl slices_S8192x128_o0_0_S256x128 inb_S256x8192_S256x256_0_0 x)
  exact fun q hq => absurd hq List.not_mem_nil

end Cert.KernelIdeal.Cells

end

end
-- ==== Proof.KI.BlockValue.lean ====
/- What one block's output holds: its rows' products, each kept where it reaches its row's floor, with ones on the diagonal. -/
module

public import proofs.«01_k».proof.Proof.KI.Stored
public import Idealize.ShloMosaic.Lib.VecWindow
public import Idealize.ShloMosaic.Lib.Writes
public import Idealize.ShloMosaic.Lib.Pipeline.Value

@[expose] public section

set_option maxRecDepth 16384

noncomputable section

namespace Cert.KernelIdeal.Cells

open Cert.KernelIdeal Cert.KernelIdeal.Gen Cert.KernelIdeal.Hand Idealize.ShloMosaic Idealize.ShloMosaic.TcCoe

/-- The diagonal tile of grid point `p` stands at column `256 p`. -/
theorem off1_eq (p : grid1.Coords) : k1_off1 p = ![0, 256 * (p 0).val] := by
  have h : ∀ t : Fin 32, (Scalar.indexCast (Scalar.muli (BitVec.ofNat 32 t.val) 256#32)).toNat = 256 * t.val := by decide +kernel
  exact congrArg (fun n : ℕ => (![0, n] : Fin 2 → ℕ)) (h (p 0))

/-- One row of a finished block, from its row's scaled products: one at its own column, elsewhere the product where it reaches the floor. -/
def rowOut (s : Fin 8192 → EReal) (g k : Fin 8192) : EReal :=
  if g = k then 1 else if max (Cert.Row.left s) ((10633824 / 2 ^ 123 : ℝ) : EReal) ≤ s k then s k else 0

variable (c : Dev nD) (p : grid1.Coords) (arg1 : Memref sig .tc .vmem S256x128 .f32) (harg1 : arg1.IsWhole) (arg2 : Memref sig .tc .vmem S8192x128 .f32) (harg2 : arg2.IsWhole)
  (arg3 : Memref sig .tc .vmem S256x8192 .f32) (harg3 : arg3.IsWhole) (x0 : Vec Ideal S256x128 .f32) (x1 : Vec Ideal S8192x128 .f32)

/-- The block's own rows are its first input. -/
theorem own_eq : blockRun.sl.r (F := Ideal) c arg1 harg1 x0 = x0 := by
  unfold blockRun.sl.r k1_pay3
  rw [View.readAt_full, harg1.read_unread]
  exact shapeCast_self ..

/-- All rows are its second. -/
theorem all_eq : blockRun.sl.r_1 (F := Ideal) c arg2 harg2 x1 = x1 := by
  unfold blockRun.sl.r_1 k1_pay4
  rw [View.readAt_full, harg2.read_unread]
  exact shapeCast_self ..

/-- The block at row `i` and column `k`, where the block's own rows are rows `256 p` onwards of all rows. -/
theorem blockOut_apply (i : Fin 256) (k g : Fin 8192) (hg : g.val = 256 * (p 0).val + i.val)
    (hx : ∀ (j : Fin 256) (h : 256 * (p 0).val + j.val < 8192) (d : Fin 128), (x0 : Own) (ix2 j d) = (x1 : All) (ix2 ⟨256 * (p 0).val + j.val, h⟩ d)) :
    blockOut (F := Ideal) c p arg1 harg1 arg2 harg2 arg3 harg3 x0 x1 (ix2 i k) = rowOut (prods x0 x1 i) g k := by
  have hp : (p 0).val < 32 := (p 0).isLt
  have hflo : ∀ j, blockRun.sl.r_28 (F := Ideal) c arg1 harg1 arg2 harg2 x0 x1 (ix2 j 0) = max (Cert.Row.left (prods x0 x1 j)) ((10633824 / 2 ^ 123 : ℝ) : EReal) := fun j => by
    rw [floor_apply, own_eq, all_eq]
  unfold blockOut
  obtain ⟨L, hL, hG⟩ := pieces c p arg1 harg1 arg2 harg2 arg3 harg3 x0 x1
  have hcov := blockRun_cover (F := Ideal) c p arg1 harg1 arg2 harg2 arg3 harg3 x0 x1 (ix2 i k)
  rw [hL] at hcov ⊢
  rw [own_eq, all_eq] at hG
  by_cases hk : 256 * (p 0).val ≤ k.val ∧ k.val < 256 * (p 0).val + 256
  · have hl : k.val - 256 * (p 0).val < 256 := by omega
    refine (View.read_writes_cons_unit_of_mem VO1_2 _ (k1_off1_inb p) _ L (ix2 i k) (ix2 i ⟨k.val - 256 * (p 0).val, hl⟩) (off1_eq p) (fun a => ?_)).trans ?_
    · match a with
      | 0 => show i.val = 0 + i.val; omega
      | 1 => show k.val = 256 * (p 0).val + (k.val - 256 * (p 0).val); omega
    · rw [own_eq, diag_apply, hflo]
      unfold rowOut
      have hs : (∑ d : Fin 128, (x0 : Own) (ix2 i d) * (x0 : Own) (ix2 ⟨k.val - 256 * (p 0).val, hl⟩ d)) * Cert.Spec.scale = prods x0 x1 i k := by
        refine congrArg (fun e : EReal => e * Cert.Spec.scale) (Finset.sum_congr rfl fun d _ => ?_)
        rw [hx ⟨k.val - 256 * (p 0).val, hl⟩ (by show _ + (k.val - _) < _; omega) d]
        refine congrArg (fun q : Fin 8192 => x0 (ix2 i d) * x1 (ix2 q d)) (Fin.ext ?_)
        show 256 * (p 0).val + (k.val - 256 * (p 0).val) = k.val
        omega
      rw [hs]
      have hgk : (i = ⟨k.val - 256 * (p 0).val, hl⟩) ↔ g = k := by
        rw [Fin.ext_iff, Fin.ext_iff, hg]
        dsimp only
        omega
      simp only [hgk]
  · have hgk : g ≠ k := fun e => hk (by rw [← e, hg]; omega)
    have hmiss : (ix2 i k : S256x8192.Idx) ∉ (Rect.unit (s := S256x8192) (k1_off1 p) S256x256.size (k1_off1_inb p)).set :=
      Rect.not_mem_set_of_axis _ _ 1 (256 * (p 0).val) 256 (congrFun (off1_eq p) 1) rfl rfl (by
        show k.val < _ ∨ _ ≤ k.val
        omega)
    refine (View.read_writes_cons_unit_of_not_mem VO1_2 _ (k1_off1_inb p) _ L (ix2 i k) (off1_eq p) 1 (by
      show k.val < 256 * (p 0).val ∨ 256 * (p 0).val + 256 ≤ k.val
      omega)).trans ?_
    have hcov' : ∃ q ∈ L, (ix2 i k : S256x8192.Idx) ∈ q.1.set := by
      obtain ⟨q, hq, hy⟩ := hcov
      rcases List.mem_cons.mp hq with rfl | hq
      · exact absurd hy hmiss
      · exact ⟨q, hq, hy⟩
    refine (View.read_writes_apply_of_pieces VO1_2 _ (fun y : S256x8192.Idx => kept_at x0 x1 (blockRun.sl.r_28 (F := Ideal) c arg1 harg1 arg2 harg2 x0 x1) (y 0) (y 1)) L hG _ hcov').trans ?_
    show kept_at x0 x1 _ i k = _
    unfold kept_at rowOut
    rw [hflo, if_neg hgk]

end Cert.KernelIdeal.Cells

end

end
-- ==== Proof.KI.Value.lean ====
/- What the kernel program's result holds, at every row and column. -/
module

public import proofs.«01_k».proof.Proof.KI.Run
public import proofs.«01_k».proof.Proof.KI.Unit
public import proofs.«01_k».proof.Proof.KI.BlockValue

@[expose] public section

set_option maxRecDepth 16384

noncomputable section

namespace Cert.KernelIdeal.Cells

open Cert.KernelIdeal Cert.KernelIdeal.Gen Cert.KernelIdeal.Hand Idealize.ShloMosaic Idealize.ShloMosaic.TcCoe

/-- The kernel's result, from the argument. -/
def result (x : Cert.Rows.Arg) : FVec Ideal S8192x8192 .f32 := fun y => rowOut (Cert.Rows.simRow x (y 0)) (y 0) (y 1)

/-! Grid point `t` stands at coordinate `t`, and its row blocks at block row `t`. -/

theorem coords_eq : ∀ t : Fin cfg1.N, (grid1.coords t 0).val = t.val := by decide +kernel
theorem index0_eq : ∀ t : Fin cfg1.N, ∀ a, win1_0.index t a = (![t.val, 0] : Fin 2 → ℕ) a := by decide +kernel
theorem index2_eq : ∀ t : Fin cfg1.N, ∀ a, win1_2.index t a = (![t.val, 0] : Fin 2 → ℕ) a := by decide +kernel

section
variable (V : (c : Dev nD) → (b : Ref sig .tc) → Buf (Elt Ideal) ((c : Thread nD τ).loc b)) (c : Dev nD) (t : Fin cfg1.N)

/-- The second kernel's own rows at grid point `t`. -/
theorem own_block (i : Fin 256) (d : Fin 128) (g : Fin 8192) (hg : g.val = 256 * t.val + i.val) :
    (iblk1 V c 0 t : Own) (ix2 i d) = (V c main_v0 : All) (ix2 g d) := by
  blk_simp [iblk1]
  refine congrArg (V c main_v0) (funext fun a => Fin.ext ?_)
  blk_simp
  rw [index0_eq]
  match a with
  | 0 => show t.val * 256 + i.val = g.val; omega
  | 1 => show 0 * 128 + d.val = d.val; omega

/-- All rows, at every grid point. -/
theorem all_block : (iblk1 V c 1 t : All) = (V c main_v0 : All) := by
  funext y
  blk_simp [iblk1]
  refine congrArg (V c main_v0) (funext fun a => Fin.ext ?_)
  blk_simp
  have h : win1_1.index t a = 0 := by match a with | 0 => rfl | 1 => rfl
  rw [h, Nat.zero_mul, Nat.zero_add]

/-- Two rows' scaled product of unit rows is their similarity. -/
theorem prods_eq (x : Cert.Rows.Arg) (v1 : Own) (i : Fin 256) (g : Fin 8192) (h : ∀ d, v1 (ix2 i d) = embs x (ix2 g d)) :
    prods v1 (embs x) i = Cert.Rows.simRow x g := by
  funext k
  refine congrArg (fun e : EReal => e * Cert.Spec.scale) (Finset.sum_congr rfl fun d _ => ?_)
  rw [h d]
  rfl

/-- The array the second kernel leaves, where it reads the unit rows. -/
theorem arr1 (x : Cert.Rows.Arg) (hV : V c main_v0 = embs x) : (dat1 V c).arrAt 2 cfg1.N = result x := by
  refine (dat1 V c).arrAt_eq_of_covers 2 _ (by decide +kernel) fun t hf y => ?_
  blk_simp
  rw [after1_2]
  obtain ⟨i, k, rfl⟩ : ∃ (i : Fin 256) (k : Fin 8192), y = ix2 i k := ⟨y 0, y 1, (funext fun a => by match a with | 0 => rfl | 1 => rfl)⟩
  have ht : t.val < 32 := t.isLt
  have hi := i.isLt
  have hall := (all_block V c t).trans hV
  have hown : ∀ (j : Fin 256) (h : 256 * t.val + j.val < 8192) (d : Fin 128), (iblk1 V c 0 t : Own) (ix2 j d) = embs x (ix2 ⟨256 * t.val + j.val, h⟩ d) :=
    fun j h d => (own_block V c t j d ⟨256 * t.val + j.val, h⟩ rfl).trans (congrFun hV _)
  have he : (win1_2.blk t).view.emb (ix2 i k) = (ix2 ⟨256 * t.val + i.val, by omega⟩ k : S8192x8192.Idx) := by
    funext a
    refine Fin.ext ?_
    blk_simp
    rw [index2_eq]
    match a with
    | 0 => show t.val * 256 + i.val = 256 * t.val + i.val; omega
    | 1 => show 0 * 8192 + k.val = k.val; omega
  refine Eq.trans ?_ (congrArg (result x) he).symm
  unfold outsAt1
  refine (blockOut_apply c (grid1.coords t) _ _ _ _ _ _ (iblk1 V c 0 t) (iblk1 V c 1 t) i k ⟨256 * t.val + i.val, by omega⟩ ?_ ?_).trans ?_
  · rw [coords_eq]
  · intro j h d
    rw [hall]
    have h' : 256 * t.val + j.val < 8192 := by omega
    refine (hown j h' d).trans (congrArg (fun q : Fin 8192 => embs x (ix2 q d)) (Fin.ext ?_))
    show 256 * t.val + j.val = 256 * (grid1.coords t 0).val + j.val
    rw [coords_eq]
  · rw [hall, prods_eq x (iblk1 V c 0 t) i ⟨256 * t.val + i.val, by omega⟩ (fun d => hown i _ d)]
    rfl
end

variable (m : (ℓ : Loc nD τ sig) → Buf (Elt Ideal) ℓ) (ρ : Dev nD → PrngReg)

/-- The result buffer after the run. -/
theorem value (c : Dev nD) : W2 m ρ c (Proc.devRef .tc main_v1) = result (m ((c.tc : Thread nD τ).loc main_arg0)) := by
  refine (W2_arr m ρ c 2).trans (arr1 (V1 m ρ) c _ ?_)
  refine (W1_arr m ρ c 1).trans ?_
  exact arr0 (V0 m ρ) c

end Cert.KernelIdeal.Cells

end

end
-- ==== Proof.Equation.lean ====
/- The two programs' results at one element: equal on the diagonal, and equal off it wherever the mask holds. -/
module

public import proofs.«01_k».proof.Proof.RefValue
public import proofs.«01_k».proof.Proof.Mask
public import proofs.«01_k».proof.Proof.RowEq
public import proofs.«01_k».proof.Proof.Top
public import proofs.«01_k».proof.Proof.KI.Value

@[expose] public section

noncomputable section

namespace Cert.Equation

open Idealize.ShloMosaic Cert.Rows

/-- Where the mask holds, the kernel's element is the reference's. -/
theorem eq_apply (x : Arg) (i k : Fin 8192) (h : (Cert.On_covered.fn (F := Ideal) x).1 (ix2 i k) = 1#1) :
    Cert.KernelIdeal.Cells.result x (ix2 i k) = Cert.ReferenceIdeal.Read.val_main_v42 (F := Ideal) x (ix2 i k) := by
  classical
  rw [Cert.RefValue.value_apply x i k]
  show Cert.KernelIdeal.Cells.rowOut (simRow x i) i k = _
  unfold Cert.KernelIdeal.Cells.rowOut
  have hfin : ∀ k, ⊥ < simRow x i k := fun k => Cert.Spec.bot_lt_sim _ _
  have hfalls : Cert.Row.Falls (Cert.Row.other (simRow x i) i) (Cert.RefValue.listing x i) := Cert.Top.falls _
  by_cases hik : i = k
  · subst hik
    rw [if_pos rfl, if_pos rfl, if_neg (Cert.Row.not_picked_self hfin hfalls), mul_zero, zero_add]
  · obtain ⟨hg, hk⟩ := Cert.Mask.covered x i k h hik
    rw [if_neg hik, if_neg hik, add_zero]
    exact Cert.Row.row_eq hfin (Cert.Mask.listing_falls x i) hfalls hg
      (by exact_mod_cast (by norm_num : (0 : ℝ) < 10633824 / 2 ^ 123)) (Ne.symm hik) hk

end Cert.Equation

end

end
-- ==== Proof.Algebraic.lean ====
/- The value claim: after both programs' runs on the same argument, the results agree wherever the mask holds. -/
module

public import proofs.«01_k».proof.Defs
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_covered

@[expose] public section

noncomputable section

namespace Cert.Proof

open Idealize.ShloMosaic Idealize.SL.Sem

/-- On the masked elements the idealized kernel computes the reference's value. -/
theorem algebraic : Cert.algebraic_KernelIdeal_ReferenceIdeal_on_covered := by
  intro m g m' g' _ hagree
  refine ⟨fun c => Cert.KernelIdeal.Cells.result (m ((c.tc : Thread Cert.KernelIdeal.nD Cert.KernelIdeal.τ).loc Cert.KernelIdeal.main_arg0)),
    fun c => m ((c.tc : Thread Cert.KernelIdeal.nD Cert.KernelIdeal.τ).loc Cert.KernelIdeal.main_arg0), ?_, ?_⟩
  · refine (θ_run Cert.KernelIdeal.defs _ _).mono (fun r h c => ?_) (Cert.KernelIdeal.Hand.run_result (F := Ideal) m g)
    obtain ⟨h1, h2⟩ := h.1 c
    exact ⟨fun i _ => congrFun (h1.trans (Cert.KernelIdeal.Cells.value m g c)) i, fun i _ => congrFun h2 i, h2⟩
  · refine (θ_run Cert.ReferenceIdeal.defs _ _).mono (fun r h c => ?_) (Cert.ReferenceIdeal.Value.run (F := Ideal) m' g')
    obtain ⟨h1, h2, -⟩ := h c
    refine ⟨fun i hi => ?_, fun i _ => congrFun (h2.trans (hagree c)) i, h2⟩
    have h3 := h1.trans (Cert.ReferenceIdeal.Read.val_main_v42_eq (F := Ideal) m' c)
    rw [hagree c] at h3
    refine (congrFun h3 i).trans ?_
    obtain ⟨a, k, rfl⟩ : ∃ a k : Fin 8192, i = ix2 a k := ⟨i 0, i 1, (funext fun b => by match b with | 0 => rfl | 1 => rfl)⟩
    exact (Cert.Equation.eq_apply _ a k hi).symm

end Cert.Proof

end

end
-- ==== Proof.lean ====
/- The certificate: the claims, assembled. -/
module

public import proofs.«01_k».proof.Proof.Frames
public import proofs.«01_k».proof.Proof.Algebraic
public import proofs.«01_k».proof.Proof.Gen.On_covered
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.On_covered.Gen.facts,
    frame_p, frame_pi, frame_ri, preserves, algebraic⟩

end Cert.Proof

end
